-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S128 : Shape := ⟨1, ![128]⟩
abbrev S128x2x10000x8 : Shape := ⟨4, ![128, 2, 10000, 8]⟩
abbrev S12x4x10000x8x2x2 : Shape := ⟨6, ![12, 4, 10000, 8, 2, 2]⟩
abbrev S12x4x10000x2x2 : Shape := ⟨5, ![12, 4, 10000, 2, 2]⟩
abbrev S_ : Shape := ⟨0, ![]⟩

class Facts : Prop where
  bcast_S_S128 : S_.BroadcastsInDim S128 (![] : Fin 0 → Fin S128.rank)

variable [Facts]

def fn {F : FTy → Type} [FloatOps F] (main_arg0 : IVec S128 32) (main_arg1 : IVec S128 32) (main_arg2 : FVec F S128x2x10000x8 .f32) (main_arg3 : FVec F S12x4x10000x8x2x2 .f32) (main_arg4 : FVec F S12x4x10000x2x2 .f32) : IVec S128 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 32 := constantI S_ 32 365#32
  let main_v2 : IVec S128 32 := broadcastInDim S128 ![] bcast_S_S128 main_c_0
  let main_v3 : IVec S128 1 := cmpi .slt main_arg0 main_v2
  let main_v4 : IVec S128 1 := andi main_v1 main_v3
  let main_c_1 : IVec S_ 32 := constantI S_ 32 0#32
  let main_v5 : IVec S128 32 := broadcastInDim S128 ![] bcast_S_S128 main_c_1
  let main_v6 : IVec S128 1 := cmpi .sge main_arg1 main_v5
  let main_v7 : IVec S128 1 := andi main_v4 main_v6
  let main_c_2 : IVec S_ 32 := constantI S_ 32 48#32
  let main_v8 : IVec S128 32 := broadcastInDim S128 ![] bcast_S_S128 main_c_2
  let main_v9 : IVec S128 1 := cmpi .slt main_arg1 main_v8
  let main_v10 : IVec S128 1 := andi main_v7 main_v9
  main_v10
-- ==== Kernel.lean ====
abbrev S128 : Shape := ⟨1, ![128]⟩
abbrev S128x2x10000x8 : Shape := ⟨4, ![128, 2, 10000, 8]⟩
abbrev S12x4x10000x8x2x2 : Shape := ⟨6, ![12, 4, 10000, 8, 2, 2]⟩
abbrev S12x4x10000x2x2 : Shape := ⟨5, ![12, 4, 10000, 2, 2]⟩
abbrev S_ : Shape := ⟨0, ![]⟩
abbrev S128x1 : Shape := ⟨2, ![128, 1]⟩
abbrev S1 : Shape := ⟨1, ![1]⟩
abbrev S1x1 : Shape := ⟨2, ![1, 1]⟩
abbrev S2x10000x8x128 : Shape := ⟨4, ![2, 10000, 8, 128]⟩
abbrev S12x4x8x2x2x10000 : Shape := ⟨6, ![12, 4, 8, 2, 2, 10000]⟩
abbrev S48x8x2x2x10000 : Shape := ⟨5, ![48, 8, 2, 2, 10000]⟩
abbrev S12x4x2x2x10000 : Shape := ⟨5, ![12, 4, 2, 2, 10000]⟩
abbrev S48x2x2x10000 : Shape := ⟨4, ![48, 2, 2, 10000]⟩
abbrev S128x8x10000 : Shape := ⟨3, ![128, 8, 10000]⟩
abbrev S1x2048x8x128 : Shape := ⟨4, ![1, 2048, 8, 128]⟩
abbrev S128x8x2048 : Shape := ⟨3, ![128, 8, 2048]⟩
abbrev S128x8x1808 : Shape := ⟨3, ![128, 8, 1808]⟩
abbrev S2048x8x128 : Shape := ⟨3, ![2048, 8, 128]⟩
abbrev S2048x1x128 : Shape := ⟨3, ![2048, 1, 128]⟩
abbrev S2048x128 : Shape := ⟨2, ![2048, 128]⟩
abbrev S128x2048 : Shape := ⟨2, ![128, 2048]⟩
abbrev S128x1x2048 : Shape := ⟨3, ![128, 1, 2048]⟩
abbrev S128x2x2048 : Shape := ⟨3, ![128, 2, 2048]⟩
abbrev S1x1808x1x128 : Shape := ⟨4, ![1, 1808, 1, 128]⟩
abbrev S1808x128 : Shape := ⟨2, ![1808, 128]⟩
abbrev S128x1808 : Shape := ⟨2, ![128, 1808]⟩
abbrev S128x1x1808 : Shape := ⟨3, ![128, 1, 1808]⟩
abbrev S128x2x1808 : Shape := ⟨3, ![128, 2, 1808]⟩
abbrev S128x4x10000 : Shape := ⟨3, ![128, 4, 10000]⟩
abbrev S1x8x10000 : Shape := ⟨3, ![1, 8, 10000]⟩
abbrev S1x8x2x2x10000 : Shape := ⟨5, ![1, 8, 2, 2, 10000]⟩
abbrev S1x2x2x10000 : Shape := ⟨4, ![1, 2, 2, 10000]⟩
abbrev S1x4x10000 : Shape := ⟨3, ![1, 4, 10000]⟩
abbrev S32x10000 : Shape := ⟨2, ![32, 10000]⟩
abbrev S4x10000 : Shape := ⟨2, ![4, 10000]⟩
abbrev S8x2x2x10000 : Shape := ⟨4, ![8, 2, 2, 10000]⟩
abbrev S2x2x10000 : Shape := ⟨3, ![2, 2, 10000]⟩
abbrev S8x10000 : Shape := ⟨2, ![8, 10000]⟩
abbrev S8x1x10000 : Shape := ⟨3, ![8, 1, 10000]⟩
abbrev S8x4x10000 : Shape := ⟨3, ![8, 4, 10000]⟩
abbrev S128x2x2x10000 : Shape := ⟨4, ![128, 2, 2, 10000]⟩
abbrev S128x10000x2x2 : Shape := ⟨4, ![128, 10000, 2, 2]⟩

abbrev nBuf : Space → Nat
  | .hbm => 77
  | .vmem => 14
  | .smem => 2
  | _ => 0

abbrev bufTy : (tb : Table) → Fin (tcTables nBuf tb) → BufTy
  | .hbm, ⟨0, _⟩ => ⟨S128, .i32⟩
  | .hbm, ⟨1, _⟩ => ⟨S128, .i32⟩
  | .hbm, ⟨2, _⟩ => ⟨S128x2x10000x8, .f32⟩
  | .hbm, ⟨3, _⟩ => ⟨S12x4x10000x8x2x2, .f32⟩
  | .hbm, ⟨4, _⟩ => ⟨S12x4x10000x2x2, .f32⟩
  | .hbm, ⟨5, _⟩ => ⟨S_, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S128, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S128, .i32⟩
  | .hbm, ⟨54, _⟩ => ⟨S128x1, .i32⟩
  | .hbm, ⟨55, _⟩ => ⟨S1, .i32⟩
  | .hbm, ⟨56, _⟩ => ⟨S_, .i32⟩
  | .hbm, ⟨57, _⟩ => ⟨S128x1, .i32⟩
  | .hbm, ⟨58, _⟩ => ⟨S128x1, .i1⟩
  | .hbm, ⟨59, _⟩ => ⟨S1x1, .i32⟩
  | .hbm, ⟨60, _⟩ => ⟨S128x1, .i32⟩
  | .hbm, ⟨61, _⟩ => ⟨S128x1, .i1⟩
  | .hbm, ⟨62, _⟩ => ⟨S128x1, .i1⟩
  | .hbm, ⟨63, _⟩ => ⟨S_, .i1⟩
  | .hbm, ⟨64, _⟩ => ⟨S128, .i1⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S2x10000x8x128, .f32⟩
  | .hbm, ⟨69, _⟩ => ⟨S12x4x8x2x2x10000, .f32⟩
  | .hbm, ⟨70, _⟩ => ⟨S48x8x2x2x10000, .f32⟩
  | .hbm, ⟨71, _⟩ => ⟨S12x4x2x2x10000, .f32⟩
  | .hbm, ⟨72, _⟩ => ⟨S48x2x2x10000, .f32⟩
  | .hbm, ⟨73, _⟩ => ⟨S128x8x10000, .bf16⟩
  | .hbm, ⟨74, _⟩ => ⟨S128x4x10000, .f32⟩
  | .hbm, ⟨75, _⟩ => ⟨S128x2x2x10000, .f32⟩
  | .hbm, ⟨76, _⟩ => ⟨S128x10000x2x2, .f32⟩
  | .local _ .vmem, ⟨0, _⟩ => ⟨S1x2048x8x128, .f32⟩
  | .local _ .vmem, ⟨1, _⟩ => ⟨S1x2048x8x128, .f32⟩
  | .local _ .vmem, ⟨2, _⟩ => ⟨S128x8x2048, .bf16⟩
  | .local _ .vmem, ⟨3, _⟩ => ⟨S128x8x1808, .bf16⟩
  | .local _ .vmem, ⟨4, _⟩ => ⟨S1x8x10000, .bf16⟩
  | .local _ .vmem, ⟨5, _⟩ => ⟨S1x8x10000, .bf16⟩
  | .local _ .vmem, ⟨6, _⟩ => ⟨S1x8x2x2x10000, .f32⟩
  | .local _ .vmem, ⟨7, _⟩ => ⟨S1x8x2x2x10000, .f32⟩
  | .local _ .vmem, ⟨8, _⟩ => ⟨S1x2x2x10000, .f32⟩
  | .local _ .vmem, ⟨9, _⟩ => ⟨S1x2x2x10000, .f32⟩
  | .local _ .vmem, ⟨10, _⟩ => ⟨S1x4x10000, .f32⟩
  | .local _ .vmem, ⟨11, _⟩ => ⟨S1x4x10000, .f32⟩
  | .local _ .vmem, ⟨12, _⟩ => ⟨S32x10000, .f32⟩
  | .local _ .vmem, ⟨13, _⟩ => ⟨S4x10000, .f32⟩
  | .local _ .smem, ⟨0, _⟩ => ⟨S128, .i32⟩
  | .local _ .smem, ⟨1, _⟩ => ⟨S128, .i32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev main_c_0 : Ref sig .tc := ⟨.hbm, 23, rfl⟩
abbrev main_v1 : Ref sig .tc := ⟨.hbm, 24, rfl⟩
abbrev main_v2 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v3 : Ref sig .tc := ⟨.hbm, 43, rfl⟩
abbrev main_v4 : Ref sig .tc := ⟨.hbm, 44, rfl⟩
abbrev main_call2_v0 : Ref sig .tc := ⟨.hbm, 45, rfl⟩
abbrev main_call2_v1_0 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_c_4 : Ref sig .tc := ⟨.hbm, 66, rfl⟩
abbrev main_call3_v14 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v6 : Ref sig .tc := ⟨.smem, 0, rfl⟩
abbrev main_v5 : Ref sig .tc := ⟨.smem, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 3 → Nat :=
  let c0_i32_22 : BitVec 32 := 0#32
  let c0_i32_23 : BitVec 32 := 0#32
  let arg0 : BitVec 32 := BitVec.ofNat 32 (i 0).val
  let c2048_i32 : BitVec 32 := 2048#32
  let v57 : BitVec 32 := Scalar.muli arg0 c2048_i32
  ![0, 0, v57.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2048x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![128], ![false]⟩

abbrev pre1 : Pipeline.Prefetch sig := ⟨2, ![main_v6.idx, main_v5.idx], fun | 0 => main_v6.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v5 : Index := Scalar.indexCast v1
  ![v5.toNat]
def cc1_transform_0 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S128.size a) (numel1_S1 : S1.numel = 1) (pf : pre1.Contents (Elt F)) (i : grid1.Coords) : Fin 5 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc1_transform_2 (k1_off1_inb : ∀ i : grid1.Coords, ∀ a, (k1_off1 i) a + S1.size a ≤ S128.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_3 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x8x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x2x2x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2x2x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S128 : Shape := ⟨1, ![128]⟩
abbrev S128x2x10000x8 : Shape := ⟨4, ![128, 2, 10000, 8]⟩
abbrev S12x4x10000x8x2x2 : Shape := ⟨6, ![12, 4, 10000, 8, 2, 2]⟩
abbrev S12x4x10000x2x2 : Shape := ⟨5, ![12, 4, 10000, 2, 2]⟩
abbrev S_ : Shape := ⟨0, ![]⟩
abbrev S128x1x10000x8 : Shape := ⟨4, ![128, 1, 10000, 8]⟩
abbrev S128x10000x8 : Shape := ⟨3, ![128, 10000, 8]⟩
abbrev S128x10000x8x1x1 : Shape := ⟨5, ![128, 10000, 8, 1, 1]⟩
abbrev S128x1 : Shape := ⟨2, ![128, 1]⟩
abbrev S128x2 : Shape := ⟨2, ![128, 2]⟩
abbrev S128x10000x8x2x2 : Shape := ⟨5, ![128, 10000, 8, 2, 2]⟩
abbrev S128x10000x2x2 : Shape := ⟨4, ![128, 10000, 2, 2]⟩

abbrev nBuf : Space → Nat
  | .hbm => 85
  | .vmem => 0
  | .smem => 0
  | _ => 0

abbrev bufTy : (tb : Table) → Fin (tcTables nBuf tb) → BufTy
  | .hbm, ⟨0, _⟩ => ⟨S128, .i32⟩
  | .hbm, ⟨1, _⟩ => ⟨S128, .i32⟩
  | .hbm, ⟨2, _⟩ => ⟨S128x2x10000x8, .f32⟩
  | .hbm, ⟨3, _⟩ => ⟨S12x4x10000x8x2x2, .f32⟩
  | .hbm, ⟨4, _⟩ => ⟨S12x4x10000x2x2, .f32⟩
  | .hbm, ⟨5, _⟩ => ⟨S_, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .i32⟩
  | .hbm, ⟨41, _⟩ => ⟨S128x1x10000x8, .f32⟩
  | .hbm, ⟨42, _⟩ => ⟨S128x10000x8, .f32⟩
  | .hbm, ⟨43, _⟩ => ⟨S128x10000x8x1x1, .f32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S128, .i32⟩
  | .hbm, ⟨58, _⟩ => ⟨S128x1, .i32⟩
  | .hbm, ⟨59, _⟩ => ⟨S128x1, .i32⟩
  | .hbm, ⟨60, _⟩ => ⟨S128x2, .i32⟩
  | .hbm, ⟨61, _⟩ => ⟨S128x10000x8x2x2, .f32⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S_, .i32⟩
  | .hbm, ⟨66, _⟩ => ⟨S128, .i32⟩
  | .hbm, ⟨67, _⟩ => ⟨S128, .i32⟩
  | .hbm, ⟨68, _⟩ => ⟨S128, .i32⟩
  | .hbm, ⟨69, _⟩ => ⟨S_, .i32⟩
  | .hbm, ⟨70, _⟩ => ⟨S128, .i32⟩
  | .hbm, ⟨71, _⟩ => ⟨S128, .i1⟩
  | .hbm, ⟨72, _⟩ => ⟨S_, .i32⟩
  | .hbm, ⟨73, _⟩ => ⟨S128, .i32⟩
  | .hbm, ⟨74, _⟩ => ⟨S128, .i32⟩
  | .hbm, ⟨75, _⟩ => ⟨S128, .i32⟩
  | .hbm, ⟨76, _⟩ => ⟨S128x1, .i32⟩
  | .hbm, ⟨77, _⟩ => ⟨S128x1, .i32⟩
  | .hbm, ⟨78, _⟩ => ⟨S128x2, .i32⟩
  | .hbm, ⟨79, _⟩ => ⟨S128x10000x2x2, .f32⟩
  | .hbm, ⟨80, _⟩ => ⟨S128x10000x8x2x2, .f32⟩
  | .hbm, ⟨81, _⟩ => ⟨S128x10000x8x2x2, .f32⟩
  | .hbm, ⟨82, _⟩ => ⟨S_, .f32⟩
  | .hbm, ⟨83, _⟩ => ⟨S128x10000x2x2, .f32⟩
  | .hbm, ⟨84, _⟩ => ⟨S128x10000x2x2, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_c_1 : Ref sig .tc := ⟨.hbm, 44, rfl⟩
abbrev main_v5 : Ref sig .tc := ⟨.hbm, 45, rfl⟩
abbrev main_v6 : Ref sig .tc := ⟨.hbm, 46, rfl⟩
abbrev main_c_2 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_c_3 : Ref sig .tc := ⟨.hbm, 51, rfl⟩
abbrev main_v10 : Ref sig .tc := ⟨.hbm, 52, rfl⟩
abbrev main_v11 : Ref sig .tc := ⟨.hbm, 53, rfl⟩
abbrev main_c_4 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_c_5 : Ref sig .tc := ⟨.hbm, 62, rfl⟩
abbrev main_v19 : Ref sig .tc := ⟨.hbm, 63, rfl⟩
abbrev main_v20 : Ref sig .tc := ⟨.hbm, 64, rfl⟩
abbrev main_c_6 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_7 : Ref sig .tc := ⟨.hbm, 69, rfl⟩
abbrev main_v24 : Ref sig .tc := ⟨.hbm, 70, rfl⟩
abbrev main_v25 : Ref sig .tc := ⟨.hbm, 71, rfl⟩
abbrev main_c_8 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst : Ref sig .tc := ⟨.hbm, 82, rfl⟩
abbrev main_v35 : Ref sig .tc := ⟨.hbm, 83, rfl⟩
abbrev main_v36 : Ref sig .tc := ⟨.hbm, 84, rfl⟩

abbrev nD : Nat := 1
abbrev τ : Topo := Topo.v7x

variable {F : FTy → Type} [FloatOps F]
-- ==== Proof.Range.lean ====
module

public import proofs.«01_k».proof.Pre_indices_in_range
public import Idealize.ShloMosaic.Lib.ValueIdx
public import Idealize.ShloMosaic.Lib.WordCmp

/-! What the precondition says of the two index arrays: every day is below 365 and every step below 48. -/

@[expose] public section

namespace Cert.Proof.Range

open Idealize.ShloMosaic

/-- A word that is at least 0 and below a small bound, read signed, is below that bound as a natural. -/
theorem toNat_lt_of_signed (w : BitVec 32) (n : ℕ) (hn : n < 2 ^ 31) (h0 : IntOp.cmpi .sge w 0#32 = 1#1)
    (h1 : IntOp.cmpi .slt w (BitVec.ofNat 32 n) = 1#1) : w.toNat < n := by
  have e0 : (0#32).sle w = true := by
    revert h0
    unfold IntOp.cmpi
    cases hh : (0#32).sle w <;> simp [hh]
  have e1 : w.slt (BitVec.ofNat 32 n) = true := by
    revert h1
    unfold IntOp.cmpi
    cases hh : w.slt (BitVec.ofNat 32 n) <;> simp [hh]
  rw [BitVec.sle_eq_decide, decide_eq_true_iff] at e0
  rw [BitVec.slt_eq_decide, decide_eq_true_iff] at e1
  rw [BitVec.toInt_zero] at e0
  have hw := BitVec.toInt_eq_toNat_cond w
  have hb := BitVec.toInt_eq_toNat_cond (BitVec.ofNat 32 n)
  simp only [BitVec.toNat_ofNat] at hb
  have := w.isLt
  split at hw <;> split at hb <;> omega

/-- The precondition, read at one batch entry. -/
theorem words_lt [Cert.Pre_indices_in_range.Facts] {F : FTy → Type} [FloatOps F] (x y : IVec Cert.Pre_indices_in_range.S128 32)
    (a2 : FVec F Cert.Pre_indices_in_range.S128x2x10000x8 .f32) (a3 : FVec F Cert.Pre_indices_in_range.S12x4x10000x8x2x2 .f32)
    (a4 : FVec F Cert.Pre_indices_in_range.S12x4x10000x2x2 .f32) (h : Cert.Pre_indices_in_range.fn x y a2 a3 a4 = fun _ => 1#1) (b : Fin 128) :
    (x (ValueIdx.ix1 b)).toNat < 365 ∧ (y (ValueIdx.ix1 b)).toNat < 48 := by
  have h1 : IntOp.andi (IntOp.andi (IntOp.andi (IntOp.cmpi .sge (x (ValueIdx.ix1 b)) 0#32) (IntOp.cmpi .slt (x (ValueIdx.ix1 b)) 365#32))
      (IntOp.cmpi .sge (y (ValueIdx.ix1 b)) 0#32)) (IntOp.cmpi .slt (y (ValueIdx.ix1 b)) 48#32) = 1#1 := congrFun h (ValueIdx.ix1 b)
  have split2 : ∀ p q : BitVec 1, IntOp.andi p q = 1#1 → p = 1#1 ∧ q = 1#1 := by decide
  obtain ⟨h2, hs⟩ := split2 _ _ h1
  obtain ⟨h3, hs0⟩ := split2 _ _ h2
  obtain ⟨hd0, hd⟩ := split2 _ _ h3
  exact ⟨toNat_lt_of_signed _ 365 (by decide) hd0 hd, toNat_lt_of_signed _ 48 (by decide) hs0 hs⟩

end Cert.Proof.Range
-- ==== Proof.HostTables.lean ====
module

public import proofs.«01_k».proof.Proof.Gen.KernelIdeal.Regions
public import Idealize.ShloMosaic.Lib.StableHlo.RunRead
public import Idealize.ShloMosaic.Lib.StableHlo.ReadAt
public import Idealize.ShloMosaic.Lib.Routing.OpsSet
public import Idealize.ShloMosaic.Lib.Routing.OpsSearch
public import Idealize.ShloMosaic.Lib.SortFacts
public import Idealize.ShloMosaic.Lib.Claim
public import Idealize.ShloMosaic.Lib.ReduceAll

/-! What the host operations before the kernel's regions leave in the two tables: the group of every batch entry, the
sorted order of the groups, and the groups in that order. -/

@[expose] public section

noncomputable section

namespace Cert.Proof.Tables

open Cert.KernelIdeal Cert.KernelIdeal.Gen
open Idealize.ShloMosaic
open Idealize.ShloMosaic.TcCoe
open Idealize.ShloMosaic.Routing (pyDiv)

variable {F : FTy → Type} [FloatOps F]
variable (m : (b : Loc nD τ sig) → Buf (Elt F) b)

/-- The group words of the two index arrays: four times the day by 31, and the step by 12. -/
def gword (x y : IVec S128 32) : IVec S128 32 :=
  addi (muli (pyDiv bcast_S_S128 x (constantI S_ 32 31#32)) (broadcastInDim S128 ![] bcast_S_S128 (constantI S_ 32 4#32)))
    (pyDiv bcast_S_S128 y (constantI S_ 32 12#32))

/-- The places of the sorted words, as jnp's argsort prints. -/
def order (x : IVec S128 32) : IVec S128 32 := (Host.sort2 S128 0 comparator_i32_i32_d0 x (iotaInDim S128 32 0)).2

/-- An index, with 128 added to a negative one, as a column. -/
def wrap (o : IVec S128 32) : IVec S128x1 32 :=
  broadcastInDim S128x1 ![0] bcast_S128_S128x1_0
    (select (cmpi .slt o (broadcastInDim S128 ![] bcast_S_S128 (constantI S_ 32 0#32)))
      (addi o (broadcastInDim S128 ![] bcast_S_S128 (constantI S_ 32 128#32))) o)

/-- Which indices of a column lie from 0 to 127. -/
def within (i : IVec S128x1 32) : IVec S128 1 :=
  Host.reduce IntOp.andi (andi (cmpi .sge i (broadcastInDim S128x1 ![] bcast_S_S128x1 (constantI S_ 32 0#32)))
    (cmpi .sle i (broadcastInDim S128x1 ![0, 1] bcast_S1x1_S128x1_0_1 (broadcastInDim S1x1 ![1] bcast_S1_S1x1_1 (constantI S1 32 127#32)))))
    (constantI S_ 1 1#1) reducesTo_S128x1_S128_d1 h_S_

/-- The words of `x` at the places `o`, as jnp's take prints. -/
def taken (x o : IVec S128 32) : IVec S128 32 :=
  select (within (wrap o)) (Host.gather gather_S128_S128x1_S128_n_0_n_n_0_1_1 x (wrap o))
    (broadcastInDim S128 ![] bcast_S_S128 (constantI S_ 32 2147483648#32))

/-- The group words after the host operations. -/
theorem read_group (c : Dev nD) : V8 m c main_v4 = gword (m (c.tc.loc main_arg0)) (m (c.tc.loc main_arg1)) := by
  unfold_abbrev_sides
  after_results
  rfl

/-- What the sort's operations leave in the order table. -/
theorem after_sort (V : Valuation τ sig (Elt F)) : StableHlo.after hostOps0_5 V main_v5 = order (V main_v4) := by
  after_results
  rfl

/-- What the take's operations leave in the table of sorted groups. -/
theorem after_take (V : Valuation τ sig (Elt F)) : StableHlo.after hostOps0_6 V main_v6 = taken (V main_v4) (V main_v5) := by
  after_results
  rfl

/-- The order table after the host operations. -/
theorem read_order (c : Dev nD) : V8 m c main_v5 = order (V8 m c main_v4) := by
  have h8 : V8 m c main_v5 = V6 m c main_v5 := (V8_of m c _ (by decide)).trans (V7_of m c _ (by decide))
  have h5 : V8 m c main_v4 = V5 m c main_v4 := ((V8_of m c _ (by decide)).trans (V7_of m c _ (by decide))).trans (V6_of m c _ (by decide))
  rw [h8, h5]
  exact after_sort (V5 m c)

/-- The table of sorted groups after the host operations. -/
theorem read_sorted (c : Dev nD) : V8 m c main_v6 = taken (V8 m c main_v4) (V8 m c main_v5) := by
  have h6 : V8 m c main_v6 = V7 m c main_v6 := V8_of m c _ (by decide)
  have h5 : V8 m c main_v5 = V6 m c main_v5 := (V8_of m c _ (by decide)).trans (V7_of m c _ (by decide))
  have h4 : V8 m c main_v4 = V6 m c main_v4 := (V8_of m c _ (by decide)).trans (V7_of m c _ (by decide))
  rw [h6, h5, h4]
  exact after_take (V6 m c)

/-- The word of a group, from the day and the step. -/
theorem gword_at (x y : IVec S128 32) (b : Fin 128) {d s : Nat} (hx : x (ValueIdx.ix1 b) = BitVec.ofNat 32 d)
    (hy : y (ValueIdx.ix1 b) = BitVec.ofNat 32 s) (hd : d < 365) (hs : s < 48) :
    gword x y (ValueIdx.ix1 b) = BitVec.ofNat 32 (4 * (d / 31) + s / 12) := by
  show IntOp.addi (IntOp.muli (pyDiv bcast_S_S128 x (constantI S_ 32 31#32) (ValueIdx.ix1 b)) 4#32)
    (pyDiv bcast_S_S128 y (constantI S_ 32 12#32) (ValueIdx.ix1 b)) = _
  rw [Routing.pyDiv_ap bcast_S_S128 x _ _ hx (b := 31) rfl (by omega) (by omega) (by omega),
    Routing.pyDiv_ap bcast_S_S128 y _ _ hy (b := 12) rfl (by omega) (by omega) (by omega)]
  apply BitVec.eq_of_toNat_eq
  show ((BitVec.ofNat 32 (d / 31) * 4#32) + BitVec.ofNat 32 (s / 12)).toNat = _
  simp only [BitVec.toNat_add, BitVec.toNat_mul, BitVec.toNat_ofNat]
  omega

/-- The sorted order is a rearrangement of the places: its words are those of a map that misses no place. -/
theorem order_perm (x : IVec S128 32) : ∃ ord : Fin 128 → Fin 128, Function.Surjective ord ∧
    ∀ t, order x (ValueIdx.ix1 t) = BitVec.ofNat 32 (ord t).val := by
  have hd : 0 < S128.rank := Nat.zero_lt_one
  have e : ∀ (j : S128.Idx) (k : Fin 128), j.along (⟨0, hd⟩ : Fin S128.rank) k = ValueIdx.ix1 k := fun j k =>
    (Shape.Idx.along_rank1 j k).trans (Routing.ofFin_eq_ix1 k)
  refine ⟨sortedFrom fun k k' => comparator_i32_i32_d0 (x (ValueIdx.ix1 k), iotaInDim S128 32 0 (ValueIdx.ix1 k))
    (x (ValueIdx.ix1 k'), iotaInDim S128 32 0 (ValueIdx.ix1 k')) == 1#1, sortedFrom_surjective _, fun t => ?_⟩
  have hb : (fun k k' : Fin 128 => comparator_i32_i32_d0
      (x ((ValueIdx.ix1 t : S128.Idx).along ⟨0, hd⟩ k), iotaInDim S128 32 0 ((ValueIdx.ix1 t : S128.Idx).along ⟨0, hd⟩ k))
      (x ((ValueIdx.ix1 t : S128.Idx).along ⟨0, hd⟩ k'), iotaInDim S128 32 0 ((ValueIdx.ix1 t : S128.Idx).along ⟨0, hd⟩ k')) == 1#1)
      = fun k k' => comparator_i32_i32_d0 (x (ValueIdx.ix1 k), iotaInDim S128 32 0 (ValueIdx.ix1 k))
          (x (ValueIdx.ix1 k'), iotaInDim S128 32 0 (ValueIdx.ix1 k')) == 1#1 := by
    funext k k'
    rw [e, e]
  unfold order Host.sort2
  rw [dif_pos hd]
  refine (congrArg (fun k : Fin 128 => iotaInDim S128 32 0 ((ValueIdx.ix1 t : S128.Idx).along ⟨0, hd⟩ k)) (congrArg (fun f => sortedFrom f t) hb)).trans ?_
  rw [e]
  rfl

/-- An index that is not negative is not changed. -/
theorem wrap_at (o : IVec S128 32) (t : Fin 128) {k : Nat} (ho : o (ValueIdx.ix1 t) = BitVec.ofNat 32 k) (hk : k < 128) :
    wrap o (ValueIdx.ix2 t (0 : Fin 1)) = BitVec.ofNat 32 k := by
  have e : (wrap o (ValueIdx.ix2 t (0 : Fin 1)) : BitVec 32) = (select (cmpi .slt o (broadcastInDim S128 ![] bcast_S_S128 (constantI S_ 32 0#32)))
      (addi o (broadcastInDim S128 ![] bcast_S_S128 (constantI S_ 32 128#32))) o) (ValueIdx.ix1 t) :=
    broadcastInDim_apply _ bcast_S128_S128x1_0 _ _ _ fun a => by fin_cases a; rfl
  rw [e]
  show Scalar.select (IntOp.cmpi .slt (o (ValueIdx.ix1 t)) 0#32) _ (o (ValueIdx.ix1 t)) = _
  rw [ho, show (0#32 : BitVec 32) = BitVec.ofNat 32 0 from rfl, WordCmp.cmpi_slt_ofNat (w := 32) (by omega) (by omega)]
  simp [Scalar.select]

/-- The words taken at places below 128 are the words at those places. -/
theorem taken_at (x o : IVec S128 32) (ord : Fin 128 → Fin 128) (ho : ∀ t, o (ValueIdx.ix1 t) = BitVec.ofNat 32 (ord t).val) (t : Fin 128) :
    taken x o (ValueIdx.ix1 t) = x (ValueIdx.ix1 (ord t)) := by
  have hw := fun t => wrap_at o t (ho t) (ord t).isLt
  have hin : within (wrap o) (ValueIdx.ix1 t) = 1#1 := by
    refine Host.reduce_andi_one _ _ _ _ _ rfl fun i => ?_
    obtain ⟨p, q, rfl⟩ : ∃ (p : Fin 128) (q : Fin 1), i = ValueIdx.ix2 p q :=
      ⟨i 0, i 1, by funext a; fin_cases a <;> rfl⟩
    obtain rfl : q = 0 := Subsingleton.elim _ _
    show IntOp.andi (IntOp.cmpi .sge (wrap o (ValueIdx.ix2 p 0)) 0#32) (IntOp.cmpi .sle (wrap o (ValueIdx.ix2 p 0)) 127#32) = 1#1
    rw [hw p]
    have := (ord p).isLt
    generalize (ord p).val = k at this
    interval_cases k <;> rfl
  show Scalar.select (within (wrap o) (ValueIdx.ix1 t)) (Host.gather gather_S128_S128x1_S128_n_0_n_n_0_1_1 x (wrap o) (ValueIdx.ix1 t)) _ = _
  rw [hin, Routing.gather_take1 gather_S128_S128x1_S128_n_0_n_n_0_1_1 rfl rfl rfl rfl x (wrap o) t (ord t) (hw t) (by omega)]
  rfl

end Cert.Proof.Tables
-- ==== Proof.TransposeBody.lean ====
module

public import proofs.«01_k».proof.Proof.Gen.KernelIdeal.Skeleton
public import Idealize.ShloMosaic.Lib.Tactic
public import Idealize.ShloMosaic.Lib.Pipeline.Kit
public import Idealize.ShloMosaic.Lib.Pointwise
public import Idealize.ShloMosaic.Lib.Pipeline.ValueKit

@[expose] public section

set_option maxRecDepth 16384

noncomputable section

namespace Cert.Proof.Transpose

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the two pipelines: their rounds and the counters of the copies. -/
abbrev UU (nD : Nat) (τ : Topo) : Type := UR sig nD τ × Counters

local notation "𝕄" => MT nD τ sig Unit (Elt F) ℕ (UU nD τ) ℕ

/-- The contents of the buffer behind a memory reference. -/
abbrev Bf (c : Dev nD) {sp : Space} {S : Shape} {e : EltTy} (M : Memref sig .tc sp S e) : Type := Buf (Elt F) (M.view.loc (c : Thread nD τ))
/-- Core `c` holds the whole buffer behind `M`, with contents `f`. -/
abbrev pt (c : Dev nD) {sp : Space} {S : Shape} {e : EltTy} (M : Memref sig .tc sp S e) (f : Bf (F := F) c M) : sProp 𝕄 :=
  M.view.loc (c : Thread nD τ) ↦{fullShare} f

/-- The semaphores of the first kernel's own copies. -/
abbrev osem : Fin 2 → SemLoc sig := fun | 0 => .dma 2 | 1 => .dma 3

/-- Both of these semaphores are at zero. -/
abbrev sems0 (c : Dev nD) : sProp 𝕄 :=
  iprop(semVal ((c : Thread nD τ), osem 0) 0 ∗ semVal ((c : Thread nD τ), osem 1) 0)

/-- Four pairs of rows written one after the other into an eight-row buffer, the even row of a pair before its odd
    row, each write rewriting the whole pair: what is read back at row `r` is the row last written there. -/
theorem read_pairs {sig' : RefSig} {κ : Kind} {sp : Space} {n : ℕ} {e : EltTy} (v : View sig' κ sp (⟨3, ![128, 8, n]⟩ : Shape) e)
    (f : v.ty.Contents (Elt F)) (g : (⟨3, ![128, 8, n]⟩ : Shape).Idx → Elt F e)
    {hr0 : ∀ a, (![0, 0, 0] : Fin 3 → Nat) a + (⟨3, ![128, 2, n]⟩ : Shape).size a ≤ (⟨3, ![128, 8, n]⟩ : Shape).size a}
    {hr2 : ∀ a, (![0, 2, 0] : Fin 3 → Nat) a + (⟨3, ![128, 2, n]⟩ : Shape).size a ≤ (⟨3, ![128, 8, n]⟩ : Shape).size a}
    {hr4 : ∀ a, (![0, 4, 0] : Fin 3 → Nat) a + (⟨3, ![128, 2, n]⟩ : Shape).size a ≤ (⟨3, ![128, 8, n]⟩ : Shape).size a}
    {hr6 : ∀ a, (![0, 6, 0] : Fin 3 → Nat) a + (⟨3, ![128, 2, n]⟩ : Shape).size a ≤ (⟨3, ![128, 8, n]⟩ : Shape).size a}
    (A0 A1 A2 A3 B0 B1 B2 B3 : (⟨3, ![128, 2, n]⟩ : Shape).Idx → Elt F e)
    (h0 : ∀ (p : Fin 128) (q : Fin 2) (j : Fin n), A0 (ix3 p q j) = g (ix3 p ⟨q.val, by omega⟩ j))
    (h1 : ∀ (p : Fin 128) (q : Fin 2) (j : Fin n), A1 (ix3 p q j) = g (ix3 p ⟨2 + q.val, by omega⟩ j))
    (h2 : ∀ (p : Fin 128) (q : Fin 2) (j : Fin n), A2 (ix3 p q j) = g (ix3 p ⟨4 + q.val, by omega⟩ j))
    (h3 : ∀ (p : Fin 128) (q : Fin 2) (j : Fin n), A3 (ix3 p q j) = g (ix3 p ⟨6 + q.val, by omega⟩ j)) :
    v.read (Elt F) (v.writes (Elt F) f
      [⟨Rect.unit ![0, 6, 0] (⟨3, ![128, 2, n]⟩ : Shape).size hr6, A3⟩, ⟨Rect.unit ![0, 6, 0] (⟨3, ![128, 2, n]⟩ : Shape).size hr6, B3⟩,
       ⟨Rect.unit ![0, 4, 0] (⟨3, ![128, 2, n]⟩ : Shape).size hr4, A2⟩, ⟨Rect.unit ![0, 4, 0] (⟨3, ![128, 2, n]⟩ : Shape).size hr4, B2⟩,
       ⟨Rect.unit ![0, 2, 0] (⟨3, ![128, 2, n]⟩ : Shape).size hr2, A1⟩, ⟨Rect.unit ![0, 2, 0] (⟨3, ![128, 2, n]⟩ : Shape).size hr2, B1⟩,
       ⟨Rect.unit ![0, 0, 0] (⟨3, ![128, 2, n]⟩ : Shape).size hr0, A0⟩, ⟨Rect.unit ![0, 0, 0] (⟨3, ![128, 2, n]⟩ : Shape).size hr0, B0⟩]) = g := by
  funext y
  obtain ⟨p, r, j, rfl⟩ : ∃ (p : Fin 128) (r : Fin 8) (j : Fin n), y = ix3 p r j := ⟨y 0, y 1, y 2, eq_ix3 y⟩
  by_cases c3 : 6 ≤ r.val
  · rw [View.read_writes_cons_hit_of_coords (x := ix3 p ⟨r.val - 6, by omega⟩ j), h3]
    · congr 2; apply Fin.ext; show 6 + (r.val - 6) = r.val; omega
    · intro a; fin_cases a
      · show p.val = 0 + 1 * p.val; omega
      · show r.val = 6 + 1 * (r.val - 6); omega
      · show j.val = 0 + 1 * j.val; omega
  rw [View.read_writes_cons_miss_of_axis (a := (1 : Fin 3)) (o := 6) (n := 2) (ho := rfl) (hst := rfl) (hn := rfl) (h := by left; show r.val < 6; omega)]
  rw [View.read_writes_cons_miss_of_axis (a := (1 : Fin 3)) (o := 6) (n := 2) (ho := rfl) (hst := rfl) (hn := rfl) (h := by left; show r.val < 6; omega)]
  by_cases c2 : 4 ≤ r.val
  · rw [View.read_writes_cons_hit_of_coords (x := ix3 p ⟨r.val - 4, by omega⟩ j), h2]
    · congr 2; apply Fin.ext; show 4 + (r.val - 4) = r.val; omega
    · intro a; fin_cases a
      · show p.val = 0 + 1 * p.val; omega
      · show r.val = 4 + 1 * (r.val - 4); omega
      · show j.val = 0 + 1 * j.val; omega
  rw [View.read_writes_cons_miss_of_axis (a := (1 : Fin 3)) (o := 4) (n := 2) (ho := rfl) (hst := rfl) (hn := rfl) (h := by left; show r.val < 4; omega)]
  rw [View.read_writes_cons_miss_of_axis (a := (1 : Fin 3)) (o := 4) (n := 2) (ho := rfl) (hst := rfl) (hn := rfl) (h := by left; show r.val < 4; omega)]
  by_cases c1 : 2 ≤ r.val
  · rw [View.read_writes_cons_hit_of_coords (x := ix3 p ⟨r.val - 2, by omega⟩ j), h1]
    · congr 2; apply Fin.ext; show 2 + (r.val - 2) = r.val; omega
    · intro a; fin_cases a
      · show p.val = 0 + 1 * p.val; omega
      · show r.val = 2 + 1 * (r.val - 2); omega
      · show j.val = 0 + 1 * j.val; omega
  rw [View.read_writes_cons_miss_of_axis (a := (1 : Fin 3)) (o := 2) (n := 2) (ho := rfl) (hst := rfl) (hn := rfl) (h := by left; show r.val < 2; omega)]
  rw [View.read_writes_cons_miss_of_axis (a := (1 : Fin 3)) (o := 2) (n := 2) (ho := rfl) (hst := rfl) (hn := rfl) (h := by left; show r.val < 2; omega)]
  rw [View.read_writes_cons_hit_of_coords (x := ix3 p ⟨r.val, by omega⟩ j), h0]
  intro a; fin_cases a
  · show p.val = 0 + 1 * p.val; omega
  · show r.val = 0 + 1 * r.val; omega
  · show j.val = 0 + 1 * j.val; omega

/-- The tile a grid step transposes: entry `(p, r, j)` is the staged block's entry `(0, j, r, p)`, rounded to bf16. -/
def tile (n : ℕ) (hn : n ≤ 2048) (X : S1x2048x8x128.Idx → Elt F .f32) : (⟨3, ![128, 8, n]⟩ : Shape).Idx → Elt F .bf16 := fun y =>
  truncf .bf16 (φ := .f32) X bitsLt_bf16_f32 (ix4 0 ⟨(y 2).val, lt_of_lt_of_le (y 2).isLt hn⟩ (y 1) (y 0))

/-- Row `r` of a full step's block, sliced out, transposed and given its unit axis back, is row `r` of the tile. -/
theorem full_row (r : Fin 8) (h : S2048x8x128.Slices ![0, r.val, 0] S2048x1x128) (X : S1x2048x8x128.Idx → Elt F .f32)
    (p : Fin 128) (j : Fin 2048) :
    shapeCast S128x1x2048 (transpose S128x2048 [1, 0] (shapeCast S2048x128
        (extractStridedSlice S2048x1x128 ![0, r.val, 0] (k0_pay4 X) h) shapeCasts_S2048x1x128_S2048x128)
        transposes_S2048x128_p1_0_S128x2048) shapeCasts_S128x2048_S128x1x2048 (ix3 p 0 j)
      = tile 2048 le_rfl X (ix3 p r j) := by
  unfold tile
  pointwise [k0_pay4]

/-- Row `r` of the tail step's block, loaded by itself, transposed and given its unit axis back, is row `r` of the
    tile. -/
theorem tail_row (r : Fin 8) (c : Dev nD) (M0 : Memref sig .tc .vmem S1x2048x8x128 .f32) (f0 : Bf (F := F) c M0)
    (h : ∀ a, (![0, 0, r.val, 0] : Fin 4 → Nat) a + S1x1808x1x128.size a ≤ S1x2048x8x128.size a) (p : Fin 128) (j : Fin 1808) :
    k0_pay11 (View.readAt (Elt F) M0.view
        (Rect.unit (s := S1x2048x8x128) ![0, 0, r.val, 0] S1x1808x1x128.size h).toLoadRect f0) (ix3 p 0 j)
      = tile 1808 (by omega) (M0.view.read (Elt F) f0) (ix3 p r j) := by
  unfold tile
  pointwise [k0_pay11]
  rw [View.readAt_apply]
  congr 2
  funext a
  apply Fin.ext
  fin_cases a <;> simp [Rect.toLoadRect, LoadRect.idx]

/-- A pair of rows rewritten twice, its even row first, its odd row after: the even row reads the first payload, the
    odd row the second. -/
theorem pair_row {α : Type} {n : ℕ} (old : (⟨3, ![128, 2, n]⟩ : Shape).Idx → α) (x y : (⟨3, ![128, 1, n]⟩ : Shape).Idx → α)
    (h0 : (⟨3, ![128, 2, n]⟩ : Shape).Slices ![0, 0, 0] (⟨3, ![128, 1, n]⟩ : Shape))
    (h1 : (⟨3, ![128, 2, n]⟩ : Shape).Slices ![0, 1, 0] (⟨3, ![128, 1, n]⟩ : Shape)) (p : Fin 128) (q : Fin 2) (j : Fin n) :
    updateSlice (updateSlice old x ![0, 0, 0] h0) y ![0, 1, 0] h1 (ix3 p q j) = if q = 0 then x (ix3 p 0 j) else y (ix3 p 0 j) := by
  fin_cases q
  · simp only [updateSlice_apply]
    rw [dif_neg (by intro h; have := (h 1).1; exact absurd this (by show ¬ (1 ≤ 0); omega)), dif_pos, if_pos (by rfl)]
    · congr 1; funext a; fin_cases a <;> rfl
    · intro a; fin_cases a <;> simp
  · simp only [updateSlice_apply]
    rw [dif_pos, if_neg (by decide)]
    · congr 1; funext a; fin_cases a <;> rfl
    · intro a; fin_cases a <;> simp

/-- A pair of rows rewritten twice, with rows `r` and `r + 1` of a tile, reads the tile from row `r` on. -/
theorem pair_tile {n : ℕ} {hn : n ≤ 2048} {X : S1x2048x8x128.Idx → Elt F .f32} (r : Fin 8) (hr : r.val + 1 < 8)
    {old : (⟨3, ![128, 2, n]⟩ : Shape).Idx → Elt F .bf16} {x y : (⟨3, ![128, 1, n]⟩ : Shape).Idx → Elt F .bf16}
    {h0 : (⟨3, ![128, 2, n]⟩ : Shape).Slices ![0, 0, 0] (⟨3, ![128, 1, n]⟩ : Shape)}
    {h1 : (⟨3, ![128, 2, n]⟩ : Shape).Slices ![0, 1, 0] (⟨3, ![128, 1, n]⟩ : Shape)}
    (hx : ∀ p j, x (ix3 p 0 j) = tile n hn X (ix3 p r j)) (hy : ∀ p j, y (ix3 p 0 j) = tile n hn X (ix3 p ⟨r.val + 1, hr⟩ j))
    (s : Fin 8) (p : Fin 128) (q : Fin 2) (j : Fin n) (hs : s.val = r.val + q.val) :
    updateSlice (updateSlice old x ![0, 0, 0] h0) y ![0, 1, 0] h1 (ix3 p q j) = tile n hn X (ix3 p s j) := by
  have hq : r.val + q.val < 8 := hs ▸ s.isLt
  rw [show s = ⟨r.val + q.val, hq⟩ from Fin.ext hs]
  rw [pair_row]
  fin_cases q
  · exact hx p j
  · exact hy p j

/-- A copy of `P'` into the rectangle `R` of the transposed features, as one write. -/
theorem write_congr {c : Dev nD} {f7 : Bf (F := F) c (Memref.whole main_v12)} {R : Rect S128x8x10000} {hs : ∀ a, R.stride a = 1}
    {P P' : R.shape.Idx → Elt F .bf16} (e : P = P') :
    pt c (Memref.whole main_v12) (((Memref.whole main_v12).slice R hs).view.write (Elt F) f7 P Finset.univ)
    ⊢ pt c (Memref.whole main_v12) ((Memref.whole main_v12).view.writes (Elt F) f7 [⟨R, P'⟩]) := by
  subst e
  exact .rfl

/-- The same where the copy is already one write. -/
theorem writes_congr {c : Dev nD} {f7 : Bf (F := F) c (Memref.whole main_v12)} {R : Rect S128x8x10000} {P P' : R.shape.Idx → Elt F .bf16}
    (e : P = P') :
    pt c (Memref.whole main_v12) ((Memref.whole main_v12).view.writes (Elt F) f7 [⟨R, P⟩])
    ⊢ pt c (Memref.whole main_v12) ((Memref.whole main_v12).view.writes (Elt F) f7 [⟨R, P'⟩]) := by
  subst e
  exact .rfl

/-- A load of the whole staged block reads the block. -/
theorem readAt_block (c : Dev nD) (M0 : Memref sig .tc .vmem S1x2048x8x128 .f32) (f0 : Bf (F := F) c M0)
    (h : ∀ a, (![0, 0, 0, 0] : Fin 4 → Nat) a + S1x2048x8x128.size a ≤ S1x2048x8x128.size a) :
    View.readAt (Elt F) M0.view (Rect.unit ![0, 0, 0, 0] S1x2048x8x128.size h).toLoadRect f0 = M0.view.read (Elt F) f0 := by
  funext y
  rw [View.readAt_apply]
  congr 1
  funext a
  apply Fin.ext
  fin_cases a <;> simp [Rect.toLoadRect, LoadRect.idx]

/-- A full step of the first kernel: it writes the tile of its staged block, 2048 columns wide, at its offset in the
    transposed features, and leaves its semaphores at zero. -/
theorem run_full (c : Dev nD) (i : grid0.Coords) (h1 : k0_cond1 i = 1#1)
    (h2 : ¬ (Scalar.cmpi .ne (Scalar.extui (Scalar.cmpi .eq (BitVec.ofNat 32 (i 0).val) 4#32) : BitVec 32) 0#32 = 1#1))
    (M0 : Memref sig .tc .vmem S1x2048x8x128 .f32) (h0 : M0.IsWhole)
    (f0 : Bf (F := F) c M0) (f7 : Bf (F := F) c (Memref.whole main_v12)) (fs : Bf (F := F) c (Memref.whole cc0_scratch0))
    (ft : Bf (F := F) c (Memref.whole cc0_scratch1))
    (W : Waits sig Unit) (Q : PUnit → sProp 𝕄) :
    iprop(pt c M0 f0 ∗ pt c (Memref.whole main_v12) f7 ∗ pt c (Memref.whole cc0_scratch0) fs ∗ pt c (Memref.whole cc0_scratch1) ft ∗ sems0 c ∗ owes (c : Thread nD τ) 0 W
      ∗ (iprop(pt c M0 f0 ∗ pt c (Memref.whole main_v12) ((Memref.whole main_v12).view.writes (Elt F) f7
              [⟨Rect.unit (s := S128x8x10000) (k0_off1 i) S128x8x2048.size (k0_off1_inb i h1), tile 2048 le_rfl (M0.view.read (Elt F) f0)⟩])
            ∗ (∃ f, pt c (Memref.whole cc0_scratch0) f)  ∗ (∃ f, pt c (Memref.whole cc0_scratch1) f) ∗ sems0 c
            ∗ ∃ W, owes (c : Thread nD τ) 0 W) -∗ Q ⟨⟩))
    ⊢ wp frame (wpE (defs₀ (F := F)) Variants.none c none) Set.univ
        (cc0__transpose_body i M0 h0 (Memref.whole main_v12) (Memref.isWhole_whole _) (Memref.whole cc0_scratch0) (Memref.isWhole_whole _) (Memref.whole cc0_scratch1) (Memref.isWhole_whole _) cc0_scratch2 cc0_scratch3) Q := by
  iintro ⟨H0, H7, Hs, Ht, ⟨Hd0, Hd1⟩, HO, Hk⟩
  rw [cc0__transpose_body_eq_skeleton]
  sl_exec!
  sl_step
  iapply Hk
  isplitl [H0]; · iexact H0
  isplitl [H7]
  · sl_unfold_words
    iapply write_congr ?_ $$ H7
    · rw [readAt_block]
      refine read_pairs _ _ _ _ _ _ _ _ _ _ _ ?_ ?_ ?_ ?_
      · intro p q j
        beta_reduce
        rw [View.readCov_cons_toLoadRect]
        exact pair_tile 0 (by decide) (full_row 0 slices_S2048x8x128_o0_0_0_S2048x1x128 _) (full_row 1 slices_S2048x8x128_o0_1_0_S2048x1x128 _) _ p q j (Nat.zero_add _).symm
      · intro p q j
        beta_reduce
        rw [View.readCov_cons_toLoadRect]
        exact pair_tile 2 (by decide) (full_row 2 slices_S2048x8x128_o0_2_0_S2048x1x128 _) (full_row 3 slices_S2048x8x128_o0_3_0_S2048x1x128 _) _ p q j rfl
      · intro p q j
        beta_reduce
        rw [View.readCov_cons_toLoadRect]
        exact pair_tile 4 (by decide) (full_row 4 slices_S2048x8x128_o0_4_0_S2048x1x128 _) (full_row 5 slices_S2048x8x128_o0_5_0_S2048x1x128 _) _ p q j rfl
      · intro p q j
        beta_reduce
        rw [View.readCov_cons_toLoadRect]
        exact pair_tile 6 (by decide) (full_row 6 slices_S2048x8x128_o0_6_0_S2048x1x128 _) (full_row 7 slices_S2048x8x128_o0_7_0_S2048x1x128 _) _ p q j rfl
  isplitl [Hs]; · iexists _; iexact Hs
  isplitl [Ht]; · iexists _; iexact Ht
  isplitl [Hd0 Hd1]
  · isplitl [Hd0]; · iexact Hd0
    iexact Hd1
  iexists _; iexact HO

/-- The tail step of the first kernel: it writes the tile of the first 1808 entries of its staged block at column 8192 of
    the transposed features, and leaves its semaphores at zero. -/
theorem run_tail (c : Dev nD) (i : grid0.Coords) (h1 : ¬ k0_cond1 i = 1#1)
    (h2 : (Scalar.cmpi .ne (Scalar.extui (Scalar.cmpi .eq (BitVec.ofNat 32 (i 0).val) 4#32) : BitVec 32) 0#32 = 1#1))
    (M0 : Memref sig .tc .vmem S1x2048x8x128 .f32) (h0 : M0.IsWhole)
    (f0 : Bf (F := F) c M0) (f7 : Bf (F := F) c (Memref.whole main_v12)) (fs : Bf (F := F) c (Memref.whole cc0_scratch0))
    (ft : Bf (F := F) c (Memref.whole cc0_scratch1))
    (W : Waits sig Unit) (Q : PUnit → sProp 𝕄) :
    iprop(pt c M0 f0 ∗ pt c (Memref.whole main_v12) f7 ∗ pt c (Memref.whole cc0_scratch0) fs ∗ pt c (Memref.whole cc0_scratch1) ft ∗ sems0 c ∗ owes (c : Thread nD τ) 0 W
      ∗ (iprop(pt c M0 f0 ∗ pt c (Memref.whole main_v12) ((Memref.whole main_v12).view.writes (Elt F) f7
              [⟨Rect.unit (s := S128x8x10000) ![0, 0, 8192] S128x8x1808.size inb_S128x8x10000_S128x8x1808_0_0_8192, tile 1808 (by omega) (M0.view.read (Elt F) f0)⟩])
            ∗ (∃ f, pt c (Memref.whole cc0_scratch0) f)  ∗ (∃ f, pt c (Memref.whole cc0_scratch1) f) ∗ sems0 c
            ∗ ∃ W, owes (c : Thread nD τ) 0 W) -∗ Q ⟨⟩))
    ⊢ wp frame (wpE (defs₀ (F := F)) Variants.none c none) Set.univ
        (cc0__transpose_body i M0 h0 (Memref.whole main_v12) (Memref.isWhole_whole _) (Memref.whole cc0_scratch0) (Memref.isWhole_whole _) (Memref.whole cc0_scratch1) (Memref.isWhole_whole _) cc0_scratch2 cc0_scratch3) Q := by
  iintro ⟨H0, H7, Hs, Ht, ⟨Hd0, Hd1⟩, HO, Hk⟩
  rw [cc0__transpose_body_eq_skeleton]
  sl_exec!
  sl_step
  iapply Hk
  isplitl [H0]; · iexact H0
  isplitl [H7]
  · sl_unfold_words
    iapply writes_congr ?_ $$ H7
    · refine read_pairs _ _ _ _ _ _ _ _ _ _ _ ?_ ?_ ?_ ?_
      · intro p q j
        beta_reduce
        rw [View.readCov_cons_toLoadRect]
        exact pair_tile 0 (by decide) (tail_row 0 c M0 f0 inb_S1x2048x8x128_S1x1808x1x128_0_0_0_0) (tail_row 1 c M0 f0 inb_S1x2048x8x128_S1x1808x1x128_0_0_1_0) _ p q j (Nat.zero_add _).symm
      · intro p q j
        beta_reduce
        rw [View.readCov_cons_toLoadRect]
        exact pair_tile 2 (by decide) (tail_row 2 c M0 f0 inb_S1x2048x8x128_S1x1808x1x128_0_0_2_0) (tail_row 3 c M0 f0 inb_S1x2048x8x128_S1x1808x1x128_0_0_3_0) _ p q j rfl
      · intro p q j
        beta_reduce
        rw [View.readCov_cons_toLoadRect]
        exact pair_tile 4 (by decide) (tail_row 4 c M0 f0 inb_S1x2048x8x128_S1x1808x1x128_0_0_4_0) (tail_row 5 c M0 f0 inb_S1x2048x8x128_S1x1808x1x128_0_0_5_0) _ p q j rfl
      · intro p q j
        beta_reduce
        rw [View.readCov_cons_toLoadRect]
        exact pair_tile 6 (by decide) (tail_row 6 c M0 f0 inb_S1x2048x8x128_S1x1808x1x128_0_0_6_0) (tail_row 7 c M0 f0 inb_S1x2048x8x128_S1x1808x1x128_0_0_7_0) _ p q j rfl
  isplitl [Hs]; · iexists _; iexact Hs
  isplitl [Ht]; · iexists _; iexact Ht
  isplitl [Hd0 Hd1]
  · isplitl [Hd0]; · iexact Hd0
    iexact Hd1
  iexists _; iexact HO

end Cert.Proof.Transpose

end
-- ==== Proof.TransposeRun.lean ====
module

public import proofs.«01_k».proof.Proof.TransposeBody
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionsLoop
public import Idealize.ShloMosaic.Lib.Pipeline.Frame

@[expose] public section

noncomputable section

namespace Cert.Proof.Transpose

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : Valuation τ sig (Elt F))

/-- The features as the region finds them, in the order (time, point, feature, sample). -/
abbrev feats : S2x10000x8x128.Idx → Elt F .f32 := V main_v7

/-- The transposed features: entry `(p, r, j)` is the entry `(0, j, r, p)` of the features, rounded to bf16. -/
def FT : S128x8x10000.Idx → Elt F .bf16 := fun y =>
  truncf .bf16 (φ := .f32) (feats V) bitsLt_bf16_f32 (ix4 0 (y 2) (y 1) (y 0))

/-- The only grid coordinate of a step is its number. -/
theorem coord0 : ∀ t : Fin grid0.N, (grid0.coords t 0).val = t.val := by decide

/-- What is held before step `n`: the transposed features, right left of that step's columns, the semaphores at zero, and
    the buffers the first kernel does not stage blocks in. -/
def Φc (c : Dev nD) (n : ℕ) : sProp 𝕄 :=
  iprop((∃ f : S128x8x10000.Idx → Elt F .bf16, ⌜∀ y : S128x8x10000.Idx, (y 2).val < 2048 * n → f y = FT V y⌝ ∗ pt c (Memref.whole main_v12) f) ∗ sems0 c
    ∗ Pipeline.scopedRest (Ix := Unit) (Name := ℕ) (U := UU nD τ) (Lvl := ℕ) (Val := Elt F) spec0 c)

/-- The first kernel's proof data on core `c`. -/
def dat (c : Dev nD) : Dat τ (Elt F) Unit ℕ (UU nD τ) ℕ cfg0 c where
  A w := V (Pipeline.arrRef spec0 w)
  after w t := match w with
    | ⟨0, _⟩ => win0_0.fill (grid0.coords t) (fun _ => Classical.arbitrary _) ((win0_0.blk t).view.read (Elt F) (V main_v7))
  Φ t := Φc V c t.val
  q _ := fullShare
  owed _ := 0

/-- What a step finds staged: its block of the features, with unknown values where the block overhangs the array. -/
theorem before_in (c : Dev nD) (t : Fin cfg0.N) (d : (cfg0.win 0).block.Idx → Elt F (cfg0.win 0).elt) :
    (dat V c).before 0 t d = win0_0.fill (grid0.coords t) d ((win0_0.blk t).view.read (Elt F) (V main_v7)) := by
  unfold Dat.before; rw [if_pos (fetch0_0 t)]; rfl

/-- Reading the whole buffer of the transposed features gives its contents. -/
theorem read_v12 (f : S128x8x10000.Idx → Elt F .bf16) : (Memref.whole main_v12).view.read (Elt F) f = f := rfl

/-- The block a step stages starts the first axis. -/
theorem ix_0 : ∀ t : Fin grid0.N, cc0_transform_0 (grid0.coords t) 0 = 0 := by decide
/-- Along the second axis it is the block of the number of the step. -/
theorem ix_1 : ∀ t : Fin grid0.N, cc0_transform_0 (grid0.coords t) 1 = t.val := by decide
/-- It starts the third axis. -/
theorem ix_2 : ∀ t : Fin grid0.N, cc0_transform_0 (grid0.coords t) 2 = 0 := by decide
/-- It starts the fourth axis. -/
theorem ix_3 : ∀ t : Fin grid0.N, cc0_transform_0 (grid0.coords t) 3 = 0 := by decide
/-- How much of the block lies inside the array: along the first axis, all of it. -/
theorem xsize_0 : ∀ t : Fin grid0.N, win0_0.xsize (grid0.coords t) 0 = 1 := by decide
/-- Along the third axis, all of it. -/
theorem xsize_2 : ∀ t : Fin grid0.N, win0_0.xsize (grid0.coords t) 2 = 8 := by decide
/-- Along the fourth axis, all of it. -/
theorem xsize_3 : ∀ t : Fin grid0.N, win0_0.xsize (grid0.coords t) 3 = 128 := by decide
/-- Along the second axis, what is left of the array there, at most 2048. -/
theorem xsize_1 : ∀ t : Fin grid0.N, win0_0.xsize (grid0.coords t) 1 = min 2048 (10000 - 2048 * t.val) := by decide

/-- An entry of the block whose place lies inside the array is one that is staged. -/
theorem moved_at : ∀ (t : Fin grid0.N) (j : Fin 2048), 2048 * t.val + j.val < 10000 → j.val < win0_0.xsize (grid0.coords t) 1 := by
  intro t j h
  rw [xsize_1]; have := j.isLt; omega

/-- At such an entry the staged block is the features' entry at that place. -/
theorem fill_at (t : Fin cfg0.N) (d : win0_0.block.Idx → Elt F win0_0.elt) (j : Fin 2048) (r : Fin 8) (p : Fin 128)
    (h : 2048 * t.val + j.val < 10000) :
    (win0_0.fill (grid0.coords t) d ((win0_0.blk t).view.read (Elt F) (V main_v7)) : S1x2048x8x128.Idx → Elt F .f32) (ix4 0 j r p)
      = feats V (ix4 0 ⟨2048 * t.val + j.val, h⟩ r p) := by
  have hm : win0_0.moved (grid0.coords t) (ix4 0 j r p : S1x2048x8x128.Idx) = true := by
    rw [win0_0.moved_iff]
    intro a
    fin_cases a
    · show 0 < win0_0.xsize (grid0.coords t) 0; rw [xsize_0]; omega
    · exact moved_at t j h
    · show r.val < win0_0.xsize (grid0.coords t) 2; rw [xsize_2]; omega
    · show p.val < win0_0.xsize (grid0.coords t) 3; rw [xsize_3]; omega
  unfold Pipeline.Window.fill
  rw [dif_pos hm]
  refine congrArg (feats V) (funext fun a => Fin.ext ?_)
  fin_cases a
  · show cc0_transform_0 (grid0.coords t) 0 * 1 + 1 * 0 = 0
    rw [ix_0]
  · show cc0_transform_0 (grid0.coords t) 1 * 2048 + 1 * j.val = 2048 * t.val + j.val
    rw [ix_1]; omega
  · show cc0_transform_0 (grid0.coords t) 2 * 8 + 1 * r.val = r.val
    rw [ix_2]; omega
  · show cc0_transform_0 (grid0.coords t) 3 * 128 + 1 * p.val = p.val
    rw [ix_3]; omega

/-- If the transposed features are right left of a step's columns, then after the step has written its tile over the columns
    of the array that are its own, they are right up to the end of those columns. -/
theorem step_at (t : Fin cfg0.N) (n : ℕ) (hn : n ≤ 2048) (off : Fin 3 → ℕ) (ho : off = ![0, 0, 2048 * t.val])
    (hb : ∀ a, off a + (⟨3, ![128, 8, n]⟩ : Shape).size a ≤ S128x8x10000.size a) (hN : 2048 * t.val + n ≤ 10000)
    (hcov : ∀ k, k < 10000 → k < 2048 * (t.val + 1) → k < 2048 * t.val + n) (d : win0_0.block.Idx → Elt F win0_0.elt)
    (f : S128x8x10000.Idx → Elt F .bf16) (hf : ∀ y : S128x8x10000.Idx, (y 2).val < 2048 * t.val → f y = FT V y)
    (y : S128x8x10000.Idx) (hy : (y 2).val < 2048 * (t.val + 1)) :
    (Memref.whole main_v12).view.read (Elt F) ((Memref.whole main_v12).view.writes (Elt F) f
      [⟨Rect.unit (s := S128x8x10000) off (⟨3, ![128, 8, n]⟩ : Shape).size hb,
        tile n hn (win0_0.fill (grid0.coords t) d ((win0_0.blk t).view.read (Elt F) (V main_v7)))⟩]) y = FT V y := by
  subst ho
  obtain ⟨p, r, k, rfl⟩ : ∃ (p : Fin 128) (r : Fin 8) (k : Fin 10000), y = ix3 p r k := ⟨y 0, y 1, y 2, eq_ix3 y⟩
  change k.val < 2048 * (t.val + 1) at hy
  have hc := hcov k.val k.isLt hy
  by_cases hk : k.val < 2048 * t.val
  · rw [View.read_writes_cons_miss_of_axis (a := (2 : Fin 3)) (o := 2048 * t.val) (n := n) (ho := rfl) (hst := rfl) (hn := rfl) (h := by left; exact hk)]
    exact hf _ hk
  · rw [View.read_writes_cons_hit_of_coords (x := ix3 p r ⟨k.val - 2048 * t.val, by omega⟩)]
    · unfold tile FT
      show FloatOps.truncf _ _ _ = FloatOps.truncf _ _ _
      congr 1
      refine (fill_at V t d ⟨k.val - 2048 * t.val, by omega⟩ r p (by show 2048 * t.val + (k.val - 2048 * t.val) < 10000; have := k.isLt; omega)).trans ?_
      congr 2
      apply Fin.ext
      show 2048 * t.val + (k.val - 2048 * t.val) = k.val
      omega
    · intro a; fin_cases a
      · show p.val = 0 + 1 * p.val; omega
      · show r.val = 0 + 1 * r.val; omega
      · show k.val = 2048 * t.val + 1 * (k.val - 2048 * t.val); omega

/-- The first four steps take the branch of the full blocks. -/
theorem cond_1 : ∀ t : Fin grid0.N, t.val < 4 → k0_cond1 (grid0.coords t) = 1#1 := by decide
/-- The last step does not take it. -/
theorem cond_1' : ∀ t : Fin grid0.N, ¬ t.val < 4 → ¬ k0_cond1 (grid0.coords t) = 1#1 := by decide
/-- The first four steps do not take the branch of the tail. -/
theorem cond_2 : ∀ t : Fin grid0.N, t.val < 4 → ¬ (Scalar.cmpi .ne (Scalar.extui (Scalar.cmpi .eq (BitVec.ofNat 32 (grid0.coords t 0).val) 4#32) : BitVec 32) 0#32 = 1#1) := by decide
/-- The last step takes it. -/
theorem cond_2' : ∀ t : Fin grid0.N, ¬ t.val < 4 → (Scalar.cmpi .ne (Scalar.extui (Scalar.cmpi .eq (BitVec.ofNat 32 (grid0.coords t 0).val) 4#32) : BitVec 32) 0#32 = 1#1) := by decide
/-- A full step's copy goes to its own columns. -/
theorem off_1 : ∀ t : Fin grid0.N, k0_off1 (grid0.coords t) = ![0, 0, 2048 * t.val] := by decide

/-- After a full step the transposed features are right up to the end of its columns. -/
theorem step_full (t : Fin cfg0.N) (ht : t.val < 4) (d : win0_0.block.Idx → Elt F win0_0.elt) (X : S1x2048x8x128.Idx → Elt F .f32)
    (hX : X = win0_0.fill (grid0.coords t) d ((win0_0.blk t).view.read (Elt F) (V main_v7)))
    (f : S128x8x10000.Idx → Elt F .bf16) (hf : ∀ y : S128x8x10000.Idx, (y 2).val < 2048 * t.val → f y = FT V y)
    (y : S128x8x10000.Idx) (hy : (y 2).val < 2048 * (t.val + 1)) :
    ((Memref.whole main_v12).view.writes (Elt F) f
      [⟨Rect.unit (s := S128x8x10000) (k0_off1 (grid0.coords t)) S128x8x2048.size (k0_off1_inb (grid0.coords t) (cond_1 t ht)), tile 2048 le_rfl X⟩]
        : S128x8x10000.Idx → Elt F .bf16) y = FT V y := by
  rw [hX]
  refine (congrFun (read_v12 _) y).symm.trans ?_
  exact step_at V t 2048 le_rfl _ (off_1 t) (k0_off1_inb (grid0.coords t) (cond_1 t ht)) (by omega) (by intro k _ h; omega) d f hf y hy

/-- After the tail step they are right everywhere. -/
theorem step_tail (t : Fin cfg0.N) (ht : ¬ t.val < 4) (d : win0_0.block.Idx → Elt F win0_0.elt) (X : S1x2048x8x128.Idx → Elt F .f32)
    (hX : X = win0_0.fill (grid0.coords t) d ((win0_0.blk t).view.read (Elt F) (V main_v7)))
    (f : S128x8x10000.Idx → Elt F .bf16) (hf : ∀ y : S128x8x10000.Idx, (y 2).val < 2048 * t.val → f y = FT V y)
    (y : S128x8x10000.Idx) (hy : (y 2).val < 2048 * (t.val + 1)) :
    ((Memref.whole main_v12).view.writes (Elt F) f
      [⟨Rect.unit (s := S128x8x10000) ![0, 0, 8192] S128x8x1808.size inb_S128x8x10000_S128x8x1808_0_0_8192, tile 1808 (by omega) X⟩]
        : S128x8x10000.Idx → Elt F .bf16) y = FT V y := by
  rw [hX]
  have h4 : t.val = 4 := by have := t.isLt; change t.val < 5 at this; omega
  refine (congrFun (read_v12 _) y).symm.trans ?_
  exact step_at V t 1808 (by omega) _ (by rw [h4]) inb_S128x8x10000_S128x8x1808_0_0_8192 (by omega) (by intro k _ h; omega) d f hf y hy

/-- A whole memref owned at contents `X` is its buffer held at contents that read `X`. -/
theorem owns_of_whole {c : Thread nD τ} {sp : Space} {sh : Shape} {e : EltTy} {m : Memref sig c.2.kind sp sh e} (hw : m.IsWhole)
    (q : PosShare TreeShare) (X : sh.Idx → Elt F e) :
    (owns c m q X : sProp 𝕄) = iprop(∃ f : Buf (Elt F) (m.view.loc c), ⌜m.view.read (Elt F) f = X⌝ ∗ ((m.view.loc c) ↦{q} f)) := by
  obtain ⟨b, hsp, hsh, he, h⟩ := hw
  subst hsp hsh he
  cases h
  exact owns_whole_eq c b q X

/-- Every step of the first kernel, from what the steps before it leave, runs and leaves what the next step needs. -/
theorem body_obligation (c : Dev nD) : Pipeline.BodyObligationLoose (dat V c) (defs₀ (F := F)) Variants.none () Set.univ := fun t => by
  rw [bigSep_W0, bigSep_W0]
  rw [show (dat V c).Φ t.castSucc = Φc V c t.val from rfl, show (dat V c).Φ t.succ = Φc V c (t.val + 1) from rfl]
  unfold Φc Dat.owesAt Pipeline.owesWithin
  rw [show (dat V c).owed t.castSucc = 0 from rfl, show (dat V c).owed t.succ = 0 from rfl, scopedRest0_eq]
  iintro ⟨⟨⟨%f, %hf, H7⟩, Hsems, ⟨⟨%fs, Hs⟩, ⟨%ft, Ht⟩, Hrest⟩⟩, ⟨%W, %hW, HO⟩, ⟨%d0, H0⟩⟩
  ihave H0' := (Entails.of_eq (owns_of_whole (c := (c : Thread nD τ)) (m := (cfg0.win 0).stage (cfg0.slots t 0)) (hstage0_0 ((cfg0.slots t 0).cast nbuf0_0)) fullShare _)) $$ H0
  icases H0' with ⟨%f0, %hf0, H0⟩
  rw [before_in] at hf0
  rw [show (dat V c).after 0 t = win0_0.fill (grid0.coords t) (fun _ => Classical.arbitrary _) ((win0_0.blk t).view.read (Elt F) (V main_v7)) from rfl]
  by_cases ht : t.val < 4
  · iapply (run_full c (grid0.coords t) (cond_1 t ht) (cond_2 t ht) (stage0_0 (cfg0.slots t 0)) (hstage0_0 ((cfg0.slots t 0).cast nbuf0_0)) f0 f fs ft W)
    isplitl [H0]; · iexact H0
    isplitl [H7]; · iexact H7
    isplitl [Hs]; · iexact Hs
    isplitl [Ht]; · iexact Ht
    isplitl [Hsems]; · iexact Hsems
    isplitl [HO]; · iexact HO
    iintro ⟨H0, H7, Hs, Ht, Hsems, ⟨%W', HO⟩⟩
    isplitl [H7 Hsems Hs Ht Hrest]
    · isplitl [H7]
      · iexists _
        isplitr; swap; (· iexact H7)
        ipureintro
        intro y hy
        exact step_full V t ht d0 _ hf0 f hf y hy
      isplitl [Hsems]; · iexact Hsems
      isplitl [Hs]; · iexact Hs
      isplitl [Ht]; · iexact Ht
      iexact Hrest
    isplitl [HO]
    · iexists W'; isplitr; · ipureintro; exact fun _ _ => Or.inl trivial
      iexact HO
    iexists d0
    rw [win0_0.cut_fill]
    iapply (Entails.of_eq (owns_of_whole (c := (c : Thread nD τ)) (m := (cfg0.win 0).stage (cfg0.slots t 0)) (hstage0_0 ((cfg0.slots t 0).cast nbuf0_0)) fullShare _).symm)
    iexists f0
    isplitr; swap; (· iexact H0)
    ipureintro
    exact hf0
  · iapply (run_tail c (grid0.coords t) (cond_1' t ht) (cond_2' t ht) (stage0_0 (cfg0.slots t 0)) (hstage0_0 ((cfg0.slots t 0).cast nbuf0_0)) f0 f fs ft W)
    isplitl [H0]; · iexact H0
    isplitl [H7]; · iexact H7
    isplitl [Hs]; · iexact Hs
    isplitl [Ht]; · iexact Ht
    isplitl [Hsems]; · iexact Hsems
    isplitl [HO]; · iexact HO
    iintro ⟨H0, H7, Hs, Ht, Hsems, ⟨%W', HO⟩⟩
    isplitl [H7 Hsems Hs Ht Hrest]
    · isplitl [H7]
      · iexists _
        isplitr; swap; (· iexact H7)
        ipureintro
        intro y hy
        exact step_tail V t ht d0 _ hf0 f hf y hy
      isplitl [Hsems]; · iexact Hsems
      isplitl [Hs]; · iexact Hs
      isplitl [Ht]; · iexact Ht
      iexact Hrest
    isplitl [HO]
    · iexists W'; isplitr; · ipureintro; exact fun _ _ => Or.inl trivial
      iexact HO
    iexists d0
    rw [win0_0.cut_fill]
    iapply (Entails.of_eq (owns_of_whole (c := (c : Thread nD τ)) (m := (cfg0.win 0).stage (cfg0.slots t 0)) (hstage0_0 ((cfg0.slots t 0).cast nbuf0_0)) fullShare _).symm)
    iexists f0
    isplitr; swap; (· iexact H0)
    ipureintro
    exact hf0

end Cert.Proof.Transpose

end
-- ==== Proof.ComputeBody.lean ====
module

public import proofs.«01_k».proof.Proof.TransposeRun
public import Idealize.ShloMosaic.Lib.VecWindow

@[expose] public section

noncomputable section

namespace Cert.Proof.Compute

open Cert.KernelIdeal Cert.KernelIdeal.Gen
open Cert.Proof.Transpose (UU Bf pt owns_of_whole)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The scalar test of the second kernel at grid point `i`: it holds at the first point and where the table's word differs from the one before. -/
abbrev Repacks (c : Dev nD) (i : grid1.Coords) (f1 : Bf (F := F) c (Memref.whole main_v6)) : Prop :=
  Scalar.cmpi .ne (Scalar.extui (Scalar.ori (Scalar.cmpi .eq (BitVec.ofNat 32 (i 0).val) 0#32)
    (Scalar.cmpi .ne
      (View.readAt (Elt F) (Memref.whole main_v6).view (Rect.unit (s := S128) (k1_off1 i) S1.size (k1_off1_inb i)).toLoadRect f1 (Shape.Idx.first (show 0 < S1.numel by decide)))
      (View.readAt (Elt F) (Memref.whole main_v6).view (Rect.unit (s := S128) (k1_off2 i) S1.size (k1_off2_inb i)).toLoadRect f1 (Shape.Idx.first (show 0 < S1.numel by decide))))) : BitVec 32) 0#32 = 1#1

/-- The body of the second kernel at one grid point: the two scratch buffers are repacked from the group's blocks where the test holds and kept
elsewhere, and the result's block is the payload of the sample's features and the two scratch buffers. -/
theorem run_body (c : Dev nD) (i : grid1.Coords)
    (M3 : Memref sig .tc .vmem S1x8x10000 .bf16) (h3 : M3.IsWhole)
    (M4 : Memref sig .tc .vmem S1x8x2x2x10000 .f32) (h4 : M4.IsWhole)
    (M5 : Memref sig .tc .vmem S1x2x2x10000 .f32) (h5 : M5.IsWhole)
    (M6 : Memref sig .tc .vmem S1x4x10000 .f32) (h6 : M6.IsWhole)
    (f1 : Bf (F := F) c (Memref.whole main_v6))
    (f3 : Bf (F := F) c M3) (f4 : Bf (F := F) c M4) (f5 : Bf (F := F) c M5) (f6 : Bf (F := F) c M6)
    (f7 : Bf (F := F) c (Memref.whole cc1_scratch0)) (f8 : Bf (F := F) c (Memref.whole cc1_scratch1))
    (A : S32x10000.Idx → Elt F .f32) (B : S4x10000.Idx → Elt F .f32)
    (hA : Repacks c i f1 → A = k1_pay1 (M4.view.read (Elt F) f4)) (hA' : ¬ Repacks c i f1 → A = (Memref.whole cc1_scratch0).view.read (Elt F) f7)
    (hB : Repacks c i f1 → B = k1_pay2 (M5.view.read (Elt F) f5)) (hB' : ¬ Repacks c i f1 → B = (Memref.whole cc1_scratch1).view.read (Elt F) f8)
    (Q : PUnit → sProp 𝕄) :
    iprop(pt c (Memref.whole main_v6) f1 ∗ pt c M3 f3 ∗ pt c M4 f4 ∗ pt c M5 f5 ∗ pt c M6 f6 ∗ pt c (Memref.whole cc1_scratch0) f7 ∗ pt c (Memref.whole cc1_scratch1) f8
      ∗ (iprop(pt c (Memref.whole main_v6) f1 ∗ pt c M3 f3 ∗ pt c M4 f4 ∗ pt c M5 f5
          ∗ (∃ f : Bf (F := F) c M6, ⌜M6.view.read (Elt F) f = k1_pay3 (M3.view.read (Elt F) f3) A B⌝ ∗ pt c M6 f)
          ∗ (∃ f : Bf (F := F) c (Memref.whole cc1_scratch0), ⌜(Memref.whole cc1_scratch0).view.read (Elt F) f = A⌝ ∗ pt c (Memref.whole cc1_scratch0) f)
          ∗ (∃ f : Bf (F := F) c (Memref.whole cc1_scratch1), ⌜(Memref.whole cc1_scratch1).view.read (Elt F) f = B⌝ ∗ pt c (Memref.whole cc1_scratch1) f)) -∗ Q ⟨⟩))
    ⊢ wp frame (wpE (defs₀ (F := F)) Variants.none c none) Set.univ
        (cc1__compute_body i (Memref.whole main_v6) (Memref.isWhole_whole _) (Memref.whole main_v5) (Memref.isWhole_whole _) M3 h3 M4 h4 M5 h5 M6 h6
          (Memref.whole cc1_scratch0) (Memref.isWhole_whole _) (Memref.whole cc1_scratch1) (Memref.isWhole_whole _)) Q := by
  by_cases hc : Repacks c i f1
  · iintro ⟨H1, H3, H4, H5, H6, H7, H8, Hk⟩
    rw [cc1__compute_body_eq_skeleton]
    sl_exec!
    sl_unfold_words
    sl_step
    rw [hA hc, hB hc]
    iapply Hk
    isplitl [H1]; · iexact H1
    isplitl [H3]; · iexact H3
    isplitl [H4]; · iexact H4
    isplitl [H5]; · iexact H5
    isplitl [H6]
    · iexists _
      isplitr; swap; (· iexact H6)
      ipureintro
      rw [View.read_writes_full, View.readAt_full, View.readAt_full, View.readAt_full]
      exact congr (congrArg (k1_pay3 _) (View.readCov_full (Memref.whole cc1_scratch0).view _ _ _ _))
        (View.readCov_full (Memref.whole cc1_scratch1).view _ _ _ _)
    isplitl [H7]
    · iexists _
      isplitr; swap; (· iexact H7)
      ipureintro
      exact (View.read_writes_full (Memref.whole cc1_scratch0).view _ _ _ []).trans (congrArg k1_pay1 (View.readAt_full _ _ _))
    · iexists _
      isplitr; swap; (· iexact H8)
      ipureintro
      exact (View.read_writes_full (Memref.whole cc1_scratch1).view _ _ _ []).trans (congrArg k1_pay2 (View.readAt_full _ _ _))
  · iintro ⟨H1, H3, H4, H5, H6, H7, H8, Hk⟩
    rw [cc1__compute_body_eq_skeleton]
    sl_exec!
    sl_unfold_words
    sl_step
    rw [hA' hc, hB' hc]
    iapply Hk
    isplitl [H1]; · iexact H1
    isplitl [H3]; · iexact H3
    isplitl [H4]; · iexact H4
    isplitl [H5]; · iexact H5
    isplitl [H6]
    · iexists _
      isplitr; swap; (· iexact H6)
      ipureintro
      rw [View.read_writes_full, View.readAt_full]
      exact congr (congrArg (k1_pay3 _) (View.readAt_full (Memref.whole cc1_scratch0).view _ _))
        (View.readAt_full (Memref.whole cc1_scratch1).view _ _)
    isplitl [H7]
    · iexists _; isplitr; swap; (· iexact H7)
      ipureintro; rfl
    · iexists _; isplitr; swap; (· iexact H8)
      ipureintro; rfl

end Cert.Proof.Compute

end
-- ==== Proof.ComputeRun.lean ====
module

public import proofs.«01_k».proof.Proof.ComputeBody
public import Idealize.ShloMosaic.Lib.Pipeline.FrameBody
public import Idealize.ShloMosaic.Lib.Pipeline.RegionArraysT

@[expose] public section

noncomputable section

namespace Cert.Proof.Compute

open Cert.KernelIdeal Cert.KernelIdeal.Gen
open Cert.Proof.Transpose (UU Bf pt owns_of_whole)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : Valuation τ sig (Elt F)) (a : (pcfg1 (F := F)).Adm)

/-- The features' block at a grid point. -/
def X0 (t : Fin grid1.N) : S1x8x10000.Idx → Elt F .bf16 := ((win1 a 0).blk t).view.read (Elt F) (V main_v12)
/-- The coefficients' block at a grid point. -/
def X1 (t : Fin grid1.N) : S1x8x2x2x10000.Idx → Elt F .f32 := ((win1 a 1).blk t).view.read (Elt F) (V main_v9)
/-- The biases' block at a grid point. -/
def X2 (t : Fin grid1.N) : S1x2x2x10000.Idx → Elt F .f32 := ((win1 a 2).blk t).view.read (Elt F) (V main_v11)

/-- What is held between grid points: the scratch buffers at the last point's group, the first kernel's buffers, and the two tables. -/
def Φc (c : Dev nD) (n : ℕ) : sProp 𝕄 :=
  iprop((∃ (f7 : Bf (F := F) c (Memref.whole cc1_scratch0)) (f8 : Bf (F := F) c (Memref.whole cc1_scratch1)),
      ⌜∀ s : Fin grid1.N, n = s.val + 1 → (Memref.whole cc1_scratch0).view.read (Elt F) f7 = k1_pay1 (X1 V a s) ∧ (Memref.whole cc1_scratch1).view.read (Elt F) f8 = k1_pay2 (X2 V a s)⌝
        ∗ pt c (Memref.whole cc1_scratch0) f7 ∗ pt c (Memref.whole cc1_scratch1) f8)
    ∗ ((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ Pipeline.prefHeld pre1 c (fun _ => fullShare) a.1)

/-- The second kernel's proof data on core `c`. -/
def dat (c : Dev nD) : Dat τ (Elt F) Unit ℕ (UU nD τ) ℕ (cfg1 a) c where
  A w := V (Pipeline.arrRef spec1 w)
  after w t := match w with
    | ⟨0, _⟩ => X0 V a t
    | ⟨1, _⟩ => X1 V a t
    | ⟨2, _⟩ => X2 V a t
    | ⟨3, _⟩ => k1_pay3 (X0 V a t) (k1_pay1 (X1 V a t)) (k1_pay2 (X2 V a t))
  Φ t := Φc V a c t.val
  q _ := fullShare
  owed _ := 0

/-- What a step of the second kernel finds staged of the features is their block at that step. -/
theorem before_0 (c : Dev nD) (t : Fin (cfg1 a).N) (d) : (dat V a c).before 0 t d = X0 V a t :=
  Pipeline.Dat.before_in_eq_fetched (dat V a c) 0 rfl (fun _ => rfl) (fun _ _ _ => rfl) (fun _ => rfl) t d

/-- The same of the coefficients. -/
theorem before_1 (c : Dev nD) (t : Fin (cfg1 a).N) (d) : (dat V a c).before 1 t d = X1 V a t :=
  Pipeline.Dat.before_in_eq_fetched (dat V a c) 1 rfl (fun _ => rfl) (fun _ _ _ => rfl) (fun _ => rfl) t d

/-- The same of the biases. -/
theorem before_2 (c : Dev nD) (t : Fin (cfg1 a).N) (d) : (dat V a c).before 2 t d = X2 V a t :=
  Pipeline.Dat.before_in_eq_fetched (dat V a c) 2 rfl (fun _ => rfl) (fun _ _ _ => rfl) (fun _ => rfl) t d

/-- Two steps that name the same block of the coefficients stage the same values. -/
theorem X1_congr (t s : Fin grid1.N) (h : (win1 a 1).index t = (win1 a 1).index s) : X1 V a t = X1 V a s :=
  (dat V a 0).fetched_congr (w := 1) (t := t) (t' := s) h rfl (fun _ => Classical.arbitrary _)

/-- The same of the biases. -/
theorem X2_congr (t s : Fin grid1.N) (h : (win1 a 2).index t = (win1 a 2).index s) : X2 V a t = X2 V a s :=
  (dat V a 0).fetched_congr (w := 2) (t := t) (t' := s) h rfl (fun _ => Classical.arbitrary _)

/-- The only grid coordinate of a step is its number. -/
theorem coord0 : ∀ t : Fin grid1.N, (grid1.coords t 0).val = t.val := by decide

/-- A step reads its own entry of the first table. -/
theorem off_1 (t : Fin grid1.N) : k1_off1 (grid1.coords t) = ![t.val] := by
  revert t; decide

/-- It compares that entry with the entry before it. -/
theorem off_2 (t : Fin grid1.N) : k1_off2 (grid1.coords t) = ![t.val - 1] := by
  revert t; decide

/-- The word the index maps read of a table at a grid point. -/
theorem word_at (pf : S128.Idx → BitVec 32) (t : Fin grid1.N) :
    pf ((Rect.unit (s := S128) (k1_off1 (grid1.coords t)) S1.size (k1_off1_inb (grid1.coords t))).emb (Shape.Idx.first (show 0 < S1.numel by decide))) = pf (ix1 t) := by
  congr 1
  funext b
  apply Fin.ext
  fin_cases b
  show k1_off1 (grid1.coords t) 0 + 1 * 0 = t.val
  rw [off_1]
  show t.val + 1 * 0 = t.val
  omega

/-- The features' block of a step is the one its entry of the second table names. -/
theorem index_0 (t : Fin grid1.N) : (win1 a 0).index t = ![((a.1 1 : S128.Idx → BitVec 32) (ix1 t)).toNat, 0, 0] :=
  congrArg (fun w : BitVec 32 => ![w.toNat, 0, 0]) (word_at (a.1 1) t)
/-- The coefficients' block of a step is the one its entry of the first table names. -/
theorem index_1 (t : Fin grid1.N) : (win1 a 1).index t = ![((a.1 0 : S128.Idx → BitVec 32) (ix1 t)).toNat, 0, 0, 0, 0] :=
  congrArg (fun w : BitVec 32 => ![w.toNat, 0, 0, 0, 0]) (word_at (a.1 0) t)
/-- The biases' block of a step is the one its entry of the first table names. -/
theorem index_2 (t : Fin grid1.N) : (win1 a 2).index t = ![((a.1 0 : S128.Idx → BitVec 32) (ix1 t)).toNat, 0, 0, 0] :=
  congrArg (fun w : BitVec 32 => ![w.toNat, 0, 0, 0]) (word_at (a.1 0) t)
/-- The result's block of a step is the one its entry of the second table names. -/
theorem index_3 (t : Fin grid1.N) : (win1 a 3).index t = ![((a.1 1 : S128.Idx → BitVec 32) (ix1 t)).toNat, 0, 0] :=
  congrArg (fun w : BitVec 32 => ![w.toNat, 0, 0]) (word_at (a.1 1) t)

/-- Two steps with the same entry of the first table name the same block of the coefficients. -/
theorem index_1_congr (t s : Fin grid1.N) (h : (a.1 0 : S128.Idx → BitVec 32) (ix1 t) = (a.1 0 : S128.Idx → BitVec 32) (ix1 s)) :
    (win1 a 1).index t = (win1 a 1).index s := by rw [index_1, index_1, h]
/-- The same of the biases. -/
theorem index_2_congr (t s : Fin grid1.N) (h : (a.1 0 : S128.Idx → BitVec 32) (ix1 t) = (a.1 0 : S128.Idx → BitVec 32) (ix1 s)) :
    (win1 a 2).index t = (win1 a 2).index s := by rw [index_2, index_2, h]

/-- The two tables held are each held. -/
theorem tables_eq (c : Dev nD) : (Pipeline.prefHeld pre1 c (fun _ => fullShare) a.1 : sProp 𝕄)
    = iprop(pt c (Memref.whole main_v6) (a.1 0) ∗ pt c (Memref.whole main_v5) (a.1 1)) := by
  unfold Pipeline.prefHeld
  exact BI.bigSep_univ_eq_bigSepL [(0 : Fin 2), (1 : Fin 2)] (by decide) (by decide) _

/-- A word of one bit that an `or` leaves unset is unset on both sides. -/
theorem not_or_bits : ∀ p q : BitVec 1, ¬ Scalar.cmpi .ne (Scalar.extui (Scalar.ori p q) : BitVec 32) 0#32 = 1#1 → p ≠ 1#1 ∧ q ≠ 1#1 := by
  decide

/-- Words whose comparison for difference is unset are equal. -/
theorem eq_of_cmpi (x y : BitVec 32) (h : Scalar.cmpi .ne x y ≠ 1#1) : x = y := by
  by_contra e
  apply h
  have hb : (x != y) = true := by simpa using e
  show BitVec.ofBool (x != y) = 1#1
  rw [hb]; rfl

/-- Where the second kernel does not repack, the point is not the first and the table's word is the one before. -/
theorem not_repacks (c : Dev nD) (t : Fin grid1.N) (h : ¬ Repacks c (grid1.coords t) (a.1 0)) :
    t.val ≠ 0 ∧ (a.1 0 : S128.Idx → BitVec 32) (ix1 t) = (a.1 0 : S128.Idx → BitVec 32) (ix1 ⟨t.val - 1, by have := t.isLt; change t.val < 128 at this; omega⟩) := by
  obtain ⟨h1, h2⟩ := not_or_bits _ _ h
  constructor
  · intro e
    apply h1
    rw [coord0, e]
    rfl
  · have h3 := eq_of_cmpi _ _ h2
    refine (word_at (a.1 0) t).symm.trans (h3.trans ?_)
    refine congrArg (a.1 0 : S128.Idx → BitVec 32) ?_
    funext b
    apply Fin.ext
    fin_cases b
    show k1_off2 (grid1.coords t) 0 + 1 * 0 = t.val - 1
    rw [off_2]
    show t.val - 1 + 1 * 0 = t.val - 1
    omega

/-- Where it does not repack, the scratch buffers already hold this point's group. -/
theorem keep_both (c : Dev nD) (t : Fin grid1.N) (h : ¬ Repacks c (grid1.coords t) (a.1 0))
    (f7 : Bf (F := F) c (Memref.whole cc1_scratch0)) (f8 : Bf (F := F) c (Memref.whole cc1_scratch1))
    (hs : ∀ s : Fin grid1.N, t.val = s.val + 1 → (Memref.whole cc1_scratch0).view.read (Elt F) f7 = k1_pay1 (X1 V a s) ∧ (Memref.whole cc1_scratch1).view.read (Elt F) f8 = k1_pay2 (X2 V a s)) :
    k1_pay1 (X1 V a t) = (Memref.whole cc1_scratch0).view.read (Elt F) f7 ∧ k1_pay2 (X2 V a t) = (Memref.whole cc1_scratch1).view.read (Elt F) f8 := by
  obtain ⟨h0, hw⟩ := not_repacks a c t h
  obtain ⟨h7, h8⟩ := hs ⟨t.val - 1, by have := t.isLt; omega⟩ (by show t.val = t.val - 1 + 1; omega)
  rw [h7, h8]
  constructor
  · rw [X1_congr V a t ⟨t.val - 1, by have := t.isLt; omega⟩ (index_1_congr a _ _ hw)]
  · rw [X2_congr V a t ⟨t.val - 1, by have := t.isLt; omega⟩ (index_2_congr a _ _ hw)]

/-- One grid point of the second kernel, over its windows' blocks. -/
theorem body_at (c : Dev nD) (t : Fin (cfg1 a).N) (W : Waits sig Unit) (Q : PUnit → sProp 𝕄) :
    iprop(((∃ (f7 : Bf (F := F) c (Memref.whole cc1_scratch0)) (f8 : Bf (F := F) c (Memref.whole cc1_scratch1)),
      ⌜∀ s : Fin grid1.N, t.val = s.val + 1 → (Memref.whole cc1_scratch0).view.read (Elt F) f7 = k1_pay1 (X1 V a s) ∧ (Memref.whole cc1_scratch1).view.read (Elt F) f8 = k1_pay2 (X2 V a s)⌝
        ∗ pt c (Memref.whole cc1_scratch0) f7 ∗ pt c (Memref.whole cc1_scratch1) f8)
    ∗ ((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ pt c (Memref.whole main_v6) (a.1 0) ∗ pt c (Memref.whole main_v5) (a.1 1))
      ∗ owes (c : Thread nD τ) (0 : CellTallies nD τ sig Unit) W
      ∗ owns c.tc (stage1_0 ((cfg1 a).slots t 0)) fullShare (X0 V a t)
      ∗ owns c.tc (stage1_1 ((cfg1 a).slots t 1)) fullShare (X1 V a t)
      ∗ owns c.tc (stage1_2 ((cfg1 a).slots t 2)) fullShare (X2 V a t)
      ∗ (∃ d, owns c.tc (stage1_3 ((cfg1 a).slots t 3)) fullShare d)
      ∗ (iprop(((∃ (f7 : Bf (F := F) c (Memref.whole cc1_scratch0)) (f8 : Bf (F := F) c (Memref.whole cc1_scratch1)),
      ⌜∀ s : Fin grid1.N, t.val + 1 = s.val + 1 → (Memref.whole cc1_scratch0).view.read (Elt F) f7 = k1_pay1 (X1 V a s) ∧ (Memref.whole cc1_scratch1).view.read (Elt F) f8 = k1_pay2 (X2 V a s)⌝
        ∗ pt c (Memref.whole cc1_scratch0) f7 ∗ pt c (Memref.whole cc1_scratch1) f8)
    ∗ ((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ pt c (Memref.whole main_v6) (a.1 0) ∗ pt c (Memref.whole main_v5) (a.1 1))
      ∗ owes (c : Thread nD τ) (0 : CellTallies nD τ sig Unit) W
      ∗ owns c.tc (stage1_0 ((cfg1 a).slots t 0)) fullShare (X0 V a t)
      ∗ owns c.tc (stage1_1 ((cfg1 a).slots t 1)) fullShare (X1 V a t)
      ∗ owns c.tc (stage1_2 ((cfg1 a).slots t 2)) fullShare (X2 V a t)
      ∗ owns c.tc (stage1_3 ((cfg1 a).slots t 3)) fullShare (k1_pay3 (X0 V a t) (k1_pay1 (X1 V a t)) (k1_pay2 (X2 V a t)))) -∗ Q ⟨⟩))
    ⊢ wp frame (wpE (defs₀ (F := F)) Variants.none c none) Set.univ (defs₀ Proc.tc (cfg1 a).body ((cfg1 a).bodyArgs t ((cfg1 a).slots t))) Q := by
  iintro ⟨⟨⟨%f7, %f8, %hs, H7, H8⟩, Hrest, Ht0, Ht1⟩, HO, H0, H1, H2, ⟨%d3, H3⟩, Hk⟩
  ihave H0' := (Entails.of_eq (owns_of_whole (c := (c : Thread nD τ)) (m := stage1_0 ((cfg1 a).slots t 0)) (hstage1_0 (((cfg1 a).slots t 0).cast nbuf1_0)) fullShare (X0 V a t))) $$ H0
  ihave H1' := (Entails.of_eq (owns_of_whole (c := (c : Thread nD τ)) (m := stage1_1 ((cfg1 a).slots t 1)) (hstage1_1 (((cfg1 a).slots t 1).cast nbuf1_1)) fullShare (X1 V a t))) $$ H1
  ihave H2' := (Entails.of_eq (owns_of_whole (c := (c : Thread nD τ)) (m := stage1_2 ((cfg1 a).slots t 2)) (hstage1_2 (((cfg1 a).slots t 2).cast nbuf1_2)) fullShare (X2 V a t))) $$ H2
  ihave H3' := (Entails.of_eq (owns_of_whole (c := (c : Thread nD τ)) (m := stage1_3 ((cfg1 a).slots t 3)) (hstage1_3 (((cfg1 a).slots t 3).cast nbuf1_3)) fullShare d3)) $$ H3
  icases H0' with ⟨%f0, %hf0, H0⟩
  icases H1' with ⟨%f1, %hf1, H1⟩
  icases H2' with ⟨%f2, %hf2, H2⟩
  icases H3' with ⟨%f3, %hf3, H3⟩
  iapply (run_body c (grid1.coords t) (stage1_0 ((cfg1 a).slots t 0)) (hstage1_0 (((cfg1 a).slots t 0).cast nbuf1_0))
    (stage1_1 ((cfg1 a).slots t 1)) (hstage1_1 (((cfg1 a).slots t 1).cast nbuf1_1))
    (stage1_2 ((cfg1 a).slots t 2)) (hstage1_2 (((cfg1 a).slots t 2).cast nbuf1_2))
    (stage1_3 ((cfg1 a).slots t 3)) (hstage1_3 (((cfg1 a).slots t 3).cast nbuf1_3))
    (a.1 0) f0 f1 f2 f3 f7 f8 (k1_pay1 (X1 V a t)) (k1_pay2 (X2 V a t))
    (fun _ => congrArg k1_pay1 hf1.symm) (fun h => (keep_both V a c t h f7 f8 hs).1)
    (fun _ => congrArg k1_pay2 hf2.symm) (fun h => (keep_both V a c t h f7 f8 hs).2))
  isplitl [Ht0]; · iexact Ht0
  isplitl [H0]; · iexact H0
  isplitl [H1]; · iexact H1
  isplitl [H2]; · iexact H2
  isplitl [H3]; · iexact H3
  isplitl [H7]; · iexact H7
  isplitl [H8]; · iexact H8
  iintro ⟨Ht0, H0, H1, H2, ⟨%g3, %hg3, H3⟩, ⟨%g7, %hg7, H7⟩, ⟨%g8, %hg8, H8⟩⟩
  iapply Hk
  isplitl [H7 H8 Hrest Ht0 Ht1]
  · isplitl [H7 H8]
    · iexists g7
      iexists g8
      isplitr
      · ipureintro
        intro s hst
        have e : t = s := Fin.ext (by omega)
        subst e
        exact ⟨hg7, hg8⟩
      isplitl [H7]; · iexact H7
      iexact H8
    isplitl [Hrest]; · iexact Hrest
    isplitl [Ht0]; · iexact Ht0
    iexact Ht1
  isplitl [HO]; · iexact HO
  isplitl [H0]
  · iapply (Entails.of_eq (owns_of_whole (c := (c : Thread nD τ)) (m := stage1_0 ((cfg1 a).slots t 0)) (hstage1_0 (((cfg1 a).slots t 0).cast nbuf1_0)) fullShare (X0 V a t)).symm)
    iexists f0
    isplitr; · ipureintro; exact hf0
    iexact H0
  isplitl [H1]
  · iapply (Entails.of_eq (owns_of_whole (c := (c : Thread nD τ)) (m := stage1_1 ((cfg1 a).slots t 1)) (hstage1_1 (((cfg1 a).slots t 1).cast nbuf1_1)) fullShare (X1 V a t)).symm)
    iexists f1
    isplitr; · ipureintro; exact hf1
    iexact H1
  isplitl [H2]
  · iapply (Entails.of_eq (owns_of_whole (c := (c : Thread nD τ)) (m := stage1_2 ((cfg1 a).slots t 2)) (hstage1_2 (((cfg1 a).slots t 2).cast nbuf1_2)) fullShare (X2 V a t)).symm)
    iexists f2
    isplitr; · ipureintro; exact hf2
    iexact H2
  iapply (Entails.of_eq (owns_of_whole (c := (c : Thread nD τ)) (m := stage1_3 ((cfg1 a).slots t 3)) (hstage1_3 (((cfg1 a).slots t 3).cast nbuf1_3)) fullShare
    (k1_pay3 (X0 V a t) (k1_pay1 (X1 V a t)) (k1_pay2 (X2 V a t)))).symm)
  iexists g3
  isplitr
  · ipureintro
    rw [← hf0]
    exact hg3
  iexact H3

/-- Every step of the second kernel, from what the steps before it leave, runs and leaves what the next step needs. -/
theorem body_obligation (c : Dev nD) : Pipeline.BodyObligationLoose (dat V a c) (defs₀ (F := F)) Variants.none () Set.univ := fun t => by
  rw [bigSep_W1, bigSep_W1]
  rw [show (dat V a c).Φ t.castSucc = Φc V a c t.val from rfl, show (dat V a c).Φ t.succ = Φc V a c (t.val + 1) from rfl]
  unfold Φc Dat.owesAt Pipeline.owesWithin
  rw [show (dat V a c).owed t.castSucc = 0 from rfl, show (dat V a c).owed t.succ = 0 from rfl]
  rw [tables_eq]
  have i0 : iprop(∃ d, owns c.tc (((cfg1 a).win 0).stage ((cfg1 a).slots t 0)) fullShare ((dat V a c).before 0 t d))
      ⊢ (owns c.tc (stage1_0 ((cfg1 a).slots t 0)) fullShare (X0 V a t) : sProp 𝕄) :=
    exists_elim fun d => Entails.of_eq (congrArg (owns c.tc (stage1_0 ((cfg1 a).slots t 0)) fullShare) (before_0 V a c t d))
  have i1 : iprop(∃ d, owns c.tc (((cfg1 a).win 1).stage ((cfg1 a).slots t 1)) fullShare ((dat V a c).before 1 t d))
      ⊢ (owns c.tc (stage1_1 ((cfg1 a).slots t 1)) fullShare (X1 V a t) : sProp 𝕄) :=
    exists_elim fun d => Entails.of_eq (congrArg (owns c.tc (stage1_1 ((cfg1 a).slots t 1)) fullShare) (before_1 V a c t d))
  have i2 : iprop(∃ d, owns c.tc (((cfg1 a).win 2).stage ((cfg1 a).slots t 2)) fullShare ((dat V a c).before 2 t d))
      ⊢ (owns c.tc (stage1_2 ((cfg1 a).slots t 2)) fullShare (X2 V a t) : sProp 𝕄) :=
    exists_elim fun d => Entails.of_eq (congrArg (owns c.tc (stage1_2 ((cfg1 a).slots t 2)) fullShare) (before_2 V a c t d))
  have i3 : iprop(∃ d, owns c.tc (((cfg1 a).win 3).stage ((cfg1 a).slots t 3)) fullShare ((dat V a c).before 3 t d))
      ⊢ (iprop(∃ d, owns c.tc (stage1_3 ((cfg1 a).slots t 3)) fullShare d) : sProp 𝕄) :=
    exists_elim fun d => exists_intro (Φ := fun d => (owns c.tc (stage1_3 ((cfg1 a).slots t 3)) fullShare d : sProp 𝕄)) ((dat V a c).before 3 t d)
  refine (BIClass.sep_mono .rfl (BIClass.sep_mono .rfl (BIClass.sep_mono i0 (BIClass.sep_mono i1 (BIClass.sep_mono i2 i3))))).trans ?_
  iintro ⟨HΦ, ⟨%W, %hW, HO⟩, H0, H1, H2, H3⟩
  iapply (body_at V a c t W)
  isplitl [HΦ]; · iexact HΦ
  isplitl [HO]; · iexact HO
  isplitl [H0]; · iexact H0
  isplitl [H1]; · iexact H1
  isplitl [H2]; · iexact H2
  isplitl [H3]; · iexact H3
  iintro ⟨HΦ, HO, H0, H1, H2, H3⟩
  isplitl [HΦ]; · iexact HΦ
  isplitl [HO]
  · iexists W; isplitr; · ipureintro; exact fun _ _ => Or.inl trivial
    iexact HO
  isplitl [H0]; · iexact H0
  isplitl [H1]; · iexact H1
  isplitl [H2]; · iexact H2
  iexact H3

end Cert.Proof.Compute

end
-- ==== Proof.ComputeValue.lean ====
module

public import proofs.«01_k».proof.Proof.ComputeRun
public import Idealize.ShloMosaic.Lib.Pipeline.Covers

@[expose] public section

noncomputable section

namespace Cert.Proof.Compute

open Cert.KernelIdeal Cert.KernelIdeal.Gen
open Cert.Proof.Transpose (UU)

open Idealize.ShloMosaic
open Idealize.ShloMosaic.TcCoe

variable {F : FTy → Type} [FloatOps F]

variable (V : Valuation τ sig (Elt F)) (a : (pcfg1 (F := F)).Adm)

/-- The result array: entry `(p, q, j)` is the second kernel's payload on sample `p`'s features and the coefficients and biases of its group. -/
def OUT (gg : Fin 128 → Fin 48) : S128x4x10000.Idx → Elt F .f32 := fun y =>
  k1_pay3 (fun z : S1x8x10000.Idx => (V main_v12 : S128x8x10000.Idx → Elt F .bf16) (ix3 (y 0) (z 1) (z 2)))
    (k1_pay1 (fun z : S1x8x2x2x10000.Idx => (V main_v9 : S48x8x2x2x10000.Idx → Elt F .f32) (ix5 (gg (y 0)) (z 1) (z 2) (z 3) (z 4))))
    (k1_pay2 (fun z : S1x2x2x10000.Idx => (V main_v11 : S48x2x2x10000.Idx → Elt F .f32) (ix4 (gg (y 0)) (z 1) (z 2) (z 3))))
    (ix3 0 (y 1) (y 2))

variable (ord : Fin 128 → Fin 128) (gg : Fin 128 → Fin 48)

/-- A coordinate of a block of one entry along its axis. -/
theorem at_lead {i n z : ℕ} (hz : z = 0) (h : i = n) : i * 1 + 1 * z = n := by omega
/-- A coordinate of the first block along its axis. -/
theorem at_tail {i n z : ℕ} (h : i = 0) : i * n + 1 * z = z := by subst h; omega

/-- The staged features of a step are those of the sample the order puts there. -/
theorem X0_eq (h1 : ∀ t : Fin 128, ((a.1 1 : S128.Idx → BitVec 32) (ix1 t)).toNat = (ord t).val) (t : Fin grid1.N) :
    X0 V a t = fun z => (V main_v12 : S128x8x10000.Idx → Elt F .bf16) (ix3 (ord t) (z 1) (z 2)) := by
  funext z
  refine congrArg (V main_v12 : S128x8x10000.Idx → Elt F .bf16) (funext fun b => Fin.ext ?_)
  have hz : (z 0).val = 0 := by have := (z 0).isLt; change (z 0).val < 1 at this; omega
  fin_cases b
  · show (win1 a 0).index t (0 : Fin 3) * 1 + 1 * (z 0).val = (ord t).val
    exact at_lead hz ((congrFun (index_0 a t) 0).trans (h1 t))
  · show (win1 a 0).index t (1 : Fin 3) * 8 + 1 * (z 1).val = (z 1).val
    exact at_tail (congrFun (index_0 a t) 1)
  · show (win1 a 0).index t (2 : Fin 3) * 10000 + 1 * (z 2).val = (z 2).val
    exact at_tail (congrFun (index_0 a t) 2)

/-- The staged coefficients of a step are those of that sample's group. -/
theorem X1_eq (h0 : ∀ t : Fin 128, ((a.1 0 : S128.Idx → BitVec 32) (ix1 t)).toNat = (gg (ord t)).val) (t : Fin grid1.N) :
    X1 V a t = fun z => (V main_v9 : S48x8x2x2x10000.Idx → Elt F .f32) (ix5 (gg (ord t)) (z 1) (z 2) (z 3) (z 4)) := by
  funext z
  refine congrArg (V main_v9 : S48x8x2x2x10000.Idx → Elt F .f32) (funext fun b => Fin.ext ?_)
  have hz : (z 0).val = 0 := by have := (z 0).isLt; change (z 0).val < 1 at this; omega
  fin_cases b
  · show (win1 a 1).index t (0 : Fin 5) * 1 + 1 * (z 0).val = (gg (ord t)).val
    exact at_lead hz ((congrFun (index_1 a t) 0).trans (h0 t))
  · show (win1 a 1).index t (1 : Fin 5) * 8 + 1 * (z 1).val = (z 1).val
    exact at_tail (congrFun (index_1 a t) 1)
  · show (win1 a 1).index t (2 : Fin 5) * 2 + 1 * (z 2).val = (z 2).val
    exact at_tail (congrFun (index_1 a t) 2)
  · show (win1 a 1).index t (3 : Fin 5) * 2 + 1 * (z 3).val = (z 3).val
    exact at_tail (congrFun (index_1 a t) 3)
  · show (win1 a 1).index t (4 : Fin 5) * 10000 + 1 * (z 4).val = (z 4).val
    exact at_tail (congrFun (index_1 a t) 4)

/-- The staged biases of a step are those of that sample's group. -/
theorem X2_eq (h0 : ∀ t : Fin 128, ((a.1 0 : S128.Idx → BitVec 32) (ix1 t)).toNat = (gg (ord t)).val) (t : Fin grid1.N) :
    X2 V a t = fun z => (V main_v11 : S48x2x2x10000.Idx → Elt F .f32) (ix4 (gg (ord t)) (z 1) (z 2) (z 3)) := by
  funext z
  refine congrArg (V main_v11 : S48x2x2x10000.Idx → Elt F .f32) (funext fun b => Fin.ext ?_)
  have hz : (z 0).val = 0 := by have := (z 0).isLt; change (z 0).val < 1 at this; omega
  fin_cases b
  · show (win1 a 2).index t (0 : Fin 4) * 1 + 1 * (z 0).val = (gg (ord t)).val
    exact at_lead hz ((congrFun (index_2 a t) 0).trans (h0 t))
  · show (win1 a 2).index t (1 : Fin 4) * 2 + 1 * (z 1).val = (z 1).val
    exact at_tail (congrFun (index_2 a t) 1)
  · show (win1 a 2).index t (2 : Fin 4) * 2 + 1 * (z 2).val = (z 2).val
    exact at_tail (congrFun (index_2 a t) 2)
  · show (win1 a 2).index t (3 : Fin 4) * 10000 + 1 * (z 3).val = (z 3).val
    exact at_tail (congrFun (index_2 a t) 3)

/-- Where the order is onto, the result's blocks tile the result. -/
theorem covers_3 (h1 : ∀ t : Fin 128, ((a.1 1 : S128.Idx → BitVec 32) (ix1 t)).toNat = (ord t).val) (hs : Function.Surjective ord) :
    (win1 a 3).Covers := by
  refine (win1 a 3).covers_of_index_surj rfl (fun b => ?_) fun β => ?_
  · fin_cases b
    · show 0 < 1; decide
    · show 0 < 4; decide
    · show 0 < 10000; decide
  · have hb0 : (β (0 : Fin 3)).val < 128 := lt_of_lt_of_eq (β (0 : Fin 3)).isLt (show (win1 a 3).nblk (0 : Fin 3) = 128 from by show (128 + 1 - 1) / 1 = 128; norm_num)
    have hb1 : (β (1 : Fin 3)).val < 1 := lt_of_lt_of_eq (β (1 : Fin 3)).isLt (show (win1 a 3).nblk (1 : Fin 3) = 1 from by show (4 + 4 - 1) / 4 = 1; norm_num)
    have hb2 : (β (2 : Fin 3)).val < 1 := lt_of_lt_of_eq (β (2 : Fin 3)).isLt (show (win1 a 3).nblk (2 : Fin 3) = 1 from by show (10000 + 10000 - 1) / 10000 = 1; norm_num)
    obtain ⟨t, ht⟩ := hs ⟨(β (0 : Fin 3)).val, hb0⟩
    refine ⟨t, fun b => ?_⟩
    refine (congrFun (index_3 a t) b).trans ?_
    fin_cases b
    · show ((a.1 1 : S128.Idx → BitVec 32) (ix1 t)).toNat = (β (0 : Fin 3)).val
      rw [h1, ht]
    · show 0 = (β (1 : Fin 3)).val; omega
    · show 0 = (β (2 : Fin 3)).val; omega

/-- What the second kernel leaves in its result array. -/
theorem arr_3 (c : Dev nD) (h1 : ∀ t : Fin 128, ((a.1 1 : S128.Idx → BitVec 32) (ix1 t)).toNat = (ord t).val)
    (h0 : ∀ t : Fin 128, ((a.1 0 : S128.Idx → BitVec 32) (ix1 t)).toNat = (gg (ord t)).val) (hs : Function.Surjective ord) :
    (dat V a c).arrAt 3 (cfg1 a).N = OUT V gg := by
  refine (dat V a c).arrAt_eq_of_covers 3 _ (covers_3 a ord h1 hs) fun t _ (y : S1x4x10000.Idx) => ?_
  have hy : (y 0).val = 0 := by have := (y 0).isLt; change (y 0).val < 1 at this; omega
  have he : (((cfg1 a).win 3).blk t).view.emb y = (ix3 (ord t) (y 1) (y 2) : S128x4x10000.Idx) := by
    funext b
    apply Fin.ext
    fin_cases b
    · show (win1 a 3).index t (0 : Fin 3) * 1 + 1 * (y 0).val = (ord t).val
      exact at_lead hy ((congrFun (index_3 a t) 0).trans (h1 t))
    · show (win1 a 3).index t (1 : Fin 3) * 4 + 1 * (y 1).val = (y 1).val
      exact at_tail (congrFun (index_3 a t) 1)
    · show (win1 a 3).index t (2 : Fin 3) * 10000 + 1 * (y 2).val = (y 2).val
      exact at_tail (congrFun (index_3 a t) 2)
  rw [he]
  show k1_pay3 (X0 V a t) (k1_pay1 (X1 V a t)) (k1_pay2 (X2 V a t)) y = _
  rw [X0_eq V a ord h1, X1_eq V a ord gg h0, X2_eq V a ord gg h0]
  show k1_pay3 _ _ _ y = k1_pay3 _ _ _ (ix3 0 (y 1) (y 2))
  congr 1
  funext b
  fin_cases b
  · exact Fin.ext hy
  · rfl
  · rfl

end Cert.Proof.Compute

end
-- ==== Proof.Segments.lean ====
module

public import proofs.«01_k».proof.Proof.TransposeRun
public import proofs.«01_k».proof.Proof.ComputeValue
public import proofs.«01_k».proof.Proof.Gen.KernelIdeal.Regions
public import Idealize.ShloMosaic.Lib.Pipeline.RegionArraysT

/-! The whole run of the kernel's program. Its two regions are entered from, and left with, all the unscoped buffers at
known contents; between them, before them and after them those contents change as the host operations say. -/

@[expose] public section

noncomputable section

namespace Cert.Proof.Segments

open Cert.KernelIdeal Cert.KernelIdeal.Gen
open Cert.Proof.Transpose (UU Bf pt sems0 osem FT)
open Cert.Proof.Compute (OUT)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs arrRefs tblRefs)

variable {F : FTy → Type} [FloatOps F]

local notation "𝕄" => MT nD τ sig Unit (Elt F) ℕ (UU nD τ) ℕ

variable (m : (b : Loc nD τ sig) → Buf (Elt F) b) (gg : Fin 128 → Fin 48)

/-- The buffers after the first region: the transposed features are there. -/
def W9 (c : Dev nD) : Valuation τ sig (Elt F) := Function.update (V8 m c) main_v12 (FT (V8 m c))

/-- The buffers after the second region: its result is there. -/
def W10 (c : Dev nD) : Valuation τ sig (Elt F) := Function.update (W9 m c) main_v13 (OUT (W9 m c) gg)

/-- What the two regions leave in the buffers they write. -/
def outs : Outs (F := F) := fun _ r c => W10 m gg c r

/-- The first kernel changes no buffer but the transposed features. -/
theorem W9_of (c : Dev nD) (b : DevRef τ sig) (h : b ≠ Proc.devRef .tc main_v12) : W9 m c b = V8 m c b :=
  Function.update_of_ne h ..

/-- After the first kernel the transposed features are what its steps fill. -/
theorem W9_v12 (c : Dev nD) : W9 m c main_v12 = FT (V8 m c) := Function.update_self ..

/-- The second kernel changes no buffer but its result. -/
theorem W10_of (c : Dev nD) (b : DevRef τ sig) (h : b ≠ Proc.devRef .tc main_v13) : W10 m gg c b = W9 m c b :=
  Function.update_of_ne h ..

/-- After the second kernel its result is what its steps fill. -/
theorem W10_v13 (c : Dev nD) : W10 m gg c main_v13 = OUT (W9 m c) gg := Function.update_self ..

/-- What the generated text calls the buffers after the first region. -/
theorem V9_eq (c : Dev nD) : V9 m (outs m gg) c = W9 m c := by
  unfold V9
  exact congrArg (Function.update (V8 m c) (Proc.devRef .tc main_v12)) ((W10_of m gg c main_v12 (by decide)).trans (W9_v12 m c))

/-- What the generated text calls the buffers after the second region. -/
theorem V10_eq (c : Dev nD) : V10 m (outs m gg) c = W10 m gg c := by
  unfold V10
  rw [V9_eq]
  exact congrArg (Function.update (W9 m c) (Proc.devRef .tc main_v13)) (W10_v13 m gg c)

/-- The two tables as the second region finds them. -/
def tbl : pre1.Contents (Elt F) := fun k => V8 m 0 (Proc.devRef .tc (pre1.ref k))

/-- What the second region needs of its two tables: every block they name lies inside its array; the second table lists
the samples in an order `ord` that reaches every sample, and the first one, place by place, the group of that sample. -/
structure Sorted (ord : Fin 128 → Fin 128) : Prop where
  ok : ok1 (tbl m)
  order : ∀ t : Fin 128, ((tbl m 1 : S128.Idx → BitVec 32) (ix1 t)).toNat = (ord t).val
  group : ∀ t : Fin 128, ((tbl m 0 : S128.Idx → BitVec 32) (ix1 t)).toNat = (gg (ord t)).val
  surj : Function.Surjective ord

variable {ord : Fin 128 → Fin 128} (H : Sorted m gg ord)

/-- The admissible contents of each region's tables; the first region has none. -/
def adm (hok : ok1 (tbl (F := F) m)) : (p : Fin 2) → (pcfgs (F := F) p).Adm
  | 0 => cfg0.toPCfg_adm
  | 1 => ⟨tbl m, hok⟩

/-- The two regions' proof data. -/
def pdats (hok : ok1 (tbl (F := F) m)) : (p : Fin 2) → (c : Dev nD) → Dat τ (Elt F) Unit ℕ (UU nD τ) ℕ (Pipeline.pin (pcfgs (F := F)) (adm m hok) p) c
  | 0 => fun c => Transpose.dat (V8 m c) c
  | 1 => fun c => Compute.dat (W9 m c) ⟨tbl m, hok⟩ c

/-- No core owes another anything: no level is assigned. -/
abbrev L : GSem nD τ sig → Finset Unit := fun _ => ∅
/-- Every level is zero. -/
abbrev lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

/-- The buffer the first region's own transfers write. -/
abbrev T12 : Finset (DevRef τ sig) := {Proc.devRef .tc main_v12}

/-- The transposed features are among the program's buffers and are not an array the first pipeline moves blocks of. -/
theorem T12_sub : T12 ⊆ ucRefs τ sig \ arrRefs spec0 := by decide

/-- To hold that one buffer at a valuation is to hold the transposed features at their value. -/
theorem held_T12 (c : Dev nD) (V : Valuation τ sig (Elt F)) :
    (StableHlo.held (c : Thread nD τ) T12 V : sProp 𝕄) = pt c (Memref.whole main_v12) (V main_v12) := by
  unfold StableHlo.held
  rw [bigSep_singleton]

/-- The first kernel's own semaphores at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1] (by decide) (by decide)

/-- The first region's windows' arrays, as buffers held at a valuation that gives them those contents. -/
theorem arrays0 (hok : ok1 (tbl (F := F) m)) (c : Dev nD) (n : ℕ) (V : Valuation τ sig (Elt F)) (hV : ∀ w, (pdats m hok 0 c).arrAt w n = V (Proc.devRef .tc (Pipeline.arrRef spec0 w))) :
    ((pdats m hok 0 c).arrays ((pdats m hok 0 c).arrAt · n) : sProp 𝕄) = StableHlo.held (c : Thread nD τ) (arrRefs spec0) V :=
  Pipeline.arrays_held (pcfgs (F := F)) (adm m hok) (pdats m hok) 0 launch0 c ((pdats m hok 0 c).share_full fun _ => rfl) _ V hV

/-- The first kernel's array, an input, keeps its value at every step. -/
theorem arr_0 (hok : ok1 (tbl (F := F) m)) (c : Dev nD) (n : ℕ) (w : Fin 1) : (pdats m hok 0 c).arrAt w n = V8 m c (Proc.devRef .tc (Pipeline.arrRef spec0 w)) := by
  match w with
  | 0 => exact (Transpose.dat (V8 m c) c).arrAt_in 0 rfl n

/-- After the first region the other buffers are as they were. -/
theorem held_rest0 (c : Dev nD) : (StableHlo.held (c : Thread nD τ) ((ucRefs τ sig \ arrRefs spec0) \ T12) (V8 m c) : sProp 𝕄)
    = StableHlo.held (c : Thread nD τ) ((ucRefs τ sig \ arrRefs spec0) \ T12) (W9 m c) :=
  StableHlo.held_congr _ fun b hb => (W9_of m c b (fun h => (Finset.mem_sdiff.mp hb).2 (Finset.mem_singleton.mpr h))).symm

/-- The first region's windows read no buffer its own transfers write. -/
theorem in0_ne : ∀ w : Fin 1, Proc.devRef .tc (Pipeline.arrRef spec0 w) ≠ (Proc.devRef .tc main_v12 : DevRef τ sig) := by decide

set_option backward.isDefEq.respectTransparency.types false in
/-- THE FIRST REGION: entered with all unscoped buffers as the host operations left them, left with the transposed features written. -/
def R0 (hok : ok1 (tbl (F := F) m)) : Pipeline.RegionSeg (pcfgs (F := F)) (adm m hok) (pdats m hok) () defs₀ Variants.none L lv 0 where
  win := (launch0 (F := F)).win.to₀
  block_pos := (launch0 (F := F)).block_pos
  stage_whole := (launch0 (F := F)).stage_whole
  K := Fin 2
  osem := osem
  ho := (by decide : Pipeline.OwnSemFacts spec0 osem)
  hbody c := Transpose.body_obligation (V8 m c) c
  hwaits := Pipeline.hwaits_of_owed_zero _ _ _ _ L lv 0 fun _ _ => rfl
  pre c := iprop(StableHlo.held (c : Thread nD τ) (ucRefs τ sig) (V8 m c) ∗ R c)
  post c := iprop(StableHlo.held (c : Thread nD τ) (ucRefs τ sig) (W9 m c) ∗ R c)
  X c := iprop(pt c (Memref.whole main_v12) (V8 m c main_v12) ∗ sems0 c)
  Y c := pt c (Memref.whole main_v12) (FT (V8 m c))
  Z c := StableHlo.held (c : Thread nD τ) ((ucRefs τ sig \ arrRefs spec0) \ T12) (V8 m c)
  hentry c := by
    rw [ownSems0_eq, StableHlo.held_sub_split _ (Pipeline.arrRefs_sub_ucRefs spec0 winFacts0.arr_unscoped), StableHlo.held_sub_split _ T12_sub, held_T12,
      ← arrays0 m hok c 0 (V8 m c) (arr_0 m hok c 0)]
    iintro ⟨⟨⟨Ha, H12, HZ⟩, HO⟩, Hos, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [H12 Hos]
    · isplitl [H12]; · iexact H12
      iexact Hos
    iexact HZ
  hin c := by
    rw [show (pdats m hok 0 c).Φ 0 = Transpose.Φc (V8 m c) c 0 from rfl]; unfold Transpose.Φc
    iintro ⟨⟨H12, Hos⟩, -, Hr⟩
    isplitl [H12]
    · iexists _
      isplitr; swap; (· iexact H12)
      ipureintro
      intro y hy; exact absurd hy (by omega)
    isplitl [Hos] <;> iassumption
  hout c := by
    rw [ownSems0_eq]
    show Transpose.Φc (V8 m c) c 5 ⊢ _
    unfold Transpose.Φc
    iintro ⟨⟨%f, %hf, H12⟩, Hos, Hr⟩
    have hf' : f = FT (V8 m c) := funext fun y => hf y (by have := (y 2).isLt; have h : (y 2).val < 10000 := this; omega)
    subst hf'
    isplitl [H12]; · iexact H12
    isplitl [Hos] <;> iassumption
  hexit c := by
    rw [StableHlo.held_sub_split _ (Pipeline.arrRefs_sub_ucRefs spec0 winFacts0.arr_unscoped) (W9 m c), StableHlo.held_sub_split _ T12_sub (W9 m c), held_T12,
      ← held_rest0, W9_v12,
      ← arrays0 m hok c (Pipeline.pin (pcfgs (F := F)) (adm m hok) 0).N (W9 m c) (fun w => (arr_0 m hok c _ w).trans (W9_of m c _ (in0_ne w)).symm)]
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-- The tables as every core holds them at the second region's entry. -/
theorem tbl_W9 (c : Dev nD) (k : Fin 2) : tbl m k = W9 m c (Proc.devRef .tc (pre1.ref k)) := by
  rw [W9_of m c _ (by revert k; decide), Subsingleton.elim c 0]; rfl

/-- The second region writes neither table. -/
theorem tbl_W10 (c : Dev nD) (k : Fin 2) : tbl m k = W10 m gg c (Proc.devRef .tc (pre1.ref k)) :=
  (tbl_W9 m c k).trans (W10_of m gg c _ (by revert k; decide)).symm

/-- The two tables, as buffers held at a valuation that gives them those contents. -/
theorem tables1 (c : Dev nD) (V : Valuation τ sig (Elt F)) (hV : ∀ k, tbl m k = V (Proc.devRef .tc (pre1.ref k))) :
    (Pipeline.prefHeld pre1 c (fun _ => fullShare) (tbl m) : sProp 𝕄) = StableHlo.held (c : Thread nD τ) (tblRefs pre1) V :=
  Pipeline.prefHeld_held pre1 preFacts1.inj c (tbl m) V hV

/-- The second region's windows' arrays, as buffers held at a valuation that gives them those contents. -/
theorem arrays1 (hok : ok1 (tbl (F := F) m)) (c : Dev nD) (n : ℕ) (V : Valuation τ sig (Elt F)) (hV : ∀ w, (pdats m hok 1 c).arrAt w n = V (Proc.devRef .tc (Pipeline.arrRef spec1 w))) :
    ((pdats m hok 1 c).arrays ((pdats m hok 1 c).arrAt · n) : sProp 𝕄) = StableHlo.held (c : Thread nD τ) (arrRefs spec1) V :=
  Pipeline.arrays_held (pcfgs (F := F)) (adm m hok) (pdats m hok) 1 launch1 c ((pdats m hok 1 c).share_full fun _ => rfl) _ V hV

/-- At entry the second region's arrays are as the first region left them. -/
theorem arr_entry (hok : ok1 (tbl (F := F) m)) (c : Dev nD) (w : Fin 4) : (pdats m hok 1 c).arrAt w 0 = W9 m c (Proc.devRef .tc (Pipeline.arrRef spec1 w)) := rfl

/-- The second region writes none of the arrays it reads. -/
theorem arr_in (hok : ok1 (tbl (F := F) m)) (c : Dev nD) (n : ℕ) (w : Fin 4) (h : w ≠ 3) :
    (Compute.dat (W9 m c) ⟨tbl m, hok⟩ c).arrAt w n = W10 m gg c (Proc.devRef .tc (Pipeline.arrRef spec1 w)) := by
  refine ((Compute.dat (W9 m c) ⟨tbl m, hok⟩ c).arrAt_in w (by match w, h with | 0, _ => rfl | 1, _ => rfl | 2, _ => rfl | 3, h => exact absurd rfl h) n).trans ?_
  exact (W10_of m gg c (Proc.devRef .tc (Pipeline.arrRef spec1 w)) (by revert w; decide)).symm

/-- At exit the written array holds the result. -/
theorem arr_out (H : Sorted m gg ord) (c : Dev nD) (a : (pcfg1 (F := F)).Adm) (ha : a.1 = tbl m) :
    (Compute.dat (W9 m c) a c).arrAt 3 (cfg1 a).N = W10 m gg c (Proc.devRef .tc (Pipeline.arrRef spec1 3)) :=
  (Compute.arr_3 (W9 m c) a ord gg c
    (fun t => (congrArg (fun T : pre1.Contents (Elt F) => ((T 1 : S128.Idx → BitVec 32) (Idealize.ShloMosaic.ix1 t)).toNat) ha).trans (H.order t))
    (fun t => (congrArg (fun T : pre1.Contents (Elt F) => ((T 0 : S128.Idx → BitVec 32) (Idealize.ShloMosaic.ix1 t)).toNat) ha).trans (H.group t)) H.surj).trans (W10_v13 m gg c).symm

/-- At exit the three read arrays are as they were, and the written one holds the result. -/
theorem arr_exit (H : Sorted m gg ord) (c : Dev nD) (w : Fin 4) :
    (pdats m H.ok 1 c).arrAt w (Pipeline.pin (pcfgs (F := F)) (adm m H.ok) 1).N = W10 m gg c (Proc.devRef .tc (Pipeline.arrRef spec1 w)) := by
  by_cases h : w = 3
  · subst h; exact arr_out m gg H c ⟨tbl m, H.ok⟩ rfl
  · exact arr_in m gg H.ok c _ w h

/-- What remains beside the second region's arrays and tables. -/
abbrev rest1 : Finset (DevRef τ sig) := (ucRefs τ sig \ arrRefs spec1) \ tblRefs pre1

/-- The second region leaves the other buffers as they were. -/
theorem held_rest1 (c : Dev nD) : (StableHlo.held (c : Thread nD τ) rest1 (W9 m c) : sProp 𝕄) = StableHlo.held (c : Thread nD τ) rest1 (W10 m gg c) :=
  StableHlo.held_congr _ fun b hb => (W10_of m gg c b (fun h => by subst h; revert hb; decide)).symm

/-- All unscoped buffers are the second region's arrays, its tables and the rest. -/
theorem held_split1 (c : Dev nD) (V : Valuation τ sig (Elt F)) : (StableHlo.held (c : Thread nD τ) (ucRefs τ sig) V : sProp 𝕄)
    = iprop(StableHlo.held (c : Thread nD τ) (arrRefs spec1) V ∗ StableHlo.held (c : Thread nD τ) (tblRefs pre1) V ∗ StableHlo.held (c : Thread nD τ) rest1 V) := by
  rw [StableHlo.held_sub_split _ (Pipeline.arrRefs_sub_ucRefs spec1 winFacts1.arr_unscoped),
    StableHlo.held_sub_split _ (Pipeline.tblRefs_sub_ucRefs_sdiff spec1 pre1 preFacts1.unscoped preFacts1.disj)]

set_option backward.isDefEq.respectTransparency.types false in
/-- THE SECOND REGION: entered with all unscoped buffers as the first left them, left with the result written. -/
def R1 (H : Sorted m gg ord) : Pipeline.RegionSeg (pcfgs (F := F)) (adm m H.ok) (pdats m H.ok) () defs₀ Variants.none L lv 1 where
  win := (launch1 (F := F)).win.to₀
  block_pos := (launch1 (F := F)).block_pos
  stage_whole := (launch1 (F := F)).stage_whole
  K := PEmpty
  osem k := k.elim
  ho := Pipeline.OwnSemFacts.none _
  hbody c := Compute.body_obligation (W9 m c) ⟨tbl m, H.ok⟩ c
  hwaits := Pipeline.hwaits_of_owed_zero _ _ _ _ L lv 1 fun _ _ => rfl
  pre c := iprop(StableHlo.held (c : Thread nD τ) (ucRefs τ sig) (W9 m c) ∗ R c)
  post c := iprop(StableHlo.held (c : Thread nD τ) (ucRefs τ sig) (W10 m gg c) ∗ R c)
  X _ := iprop(emp)
  Y c := Pipeline.prefHeld pre1 c (fun _ => fullShare) (tbl m)
  Z c := StableHlo.held (c : Thread nD τ) rest1 (W9 m c)
  hentry c := by
    rw [Pipeline.ownSems0_none, held_split1, ← tables1 m c (W9 m c) (tbl_W9 m c), ← arrays1 m H.ok c 0 (W9 m c) (arr_entry m H.ok c)]
    iintro ⟨⟨⟨Ha, Ht, HZ⟩, HO⟩, -, -⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    show _ ⊢ Compute.Φc (W9 m c) ⟨tbl m, H.ok⟩ c 0
    rw [show Pipeline.scopedRest (Ix := Unit) (Name := ℕ) (U := UU nD τ) (Lvl := ℕ) (Val := Elt F) (pcfgs (F := F) 1).spec c = Pipeline.scopedRest spec1 c from rfl, scopedRest1_eq]
    unfold Compute.Φc
    iintro ⟨-, Ht, ⟨H1, H2, H3, H4, ⟨%f7, H7⟩, ⟨%f8, H8⟩⟩⟩
    isplitl [H7 H8]
    · iexists f7; iexists f8
      isplitr; · ipureintro; intro s hs; exact absurd hs (by omega)
      isplitl [H7] <;> iassumption
    isplitr [Ht]
    · isplitl [H1]; · iexact H1
      isplitl [H2]; · iexact H2
      isplitl [H3] <;> iassumption
    iexact Ht
  hout c := by
    rw [Pipeline.ownSems0_none]
    show Compute.Φc (W9 m c) ⟨tbl m, H.ok⟩ c 128 ⊢ _
    rw [show Pipeline.scopedRest (Ix := Unit) (Name := ℕ) (U := UU nD τ) (Lvl := ℕ) (Val := Elt F) (pcfgs (F := F) 1).spec c = Pipeline.scopedRest spec1 c from rfl, scopedRest1_eq]
    unfold Compute.Φc
    iintro ⟨⟨%f7, %f8, -, H7, H8⟩, ⟨H1, H2, H3, H4⟩, Ht⟩
    isplitl [Ht]; · iexact Ht
    isplitr; · iempintro
    isplitl [H1]; · iexact H1
    isplitl [H2]; · iexact H2
    isplitl [H3]; · iexact H3
    isplitl [H4]; · iexact H4
    isplitl [H7]; · iexists f7; iexact H7
    iexists f8; iexact H8
  hexit c := by
    rw [held_split1, ← tables1 m c (W10 m gg c) (tbl_W10 m gg c), ← held_rest1,
      ← arrays1 m H.ok c (Pipeline.pin (pcfgs (F := F)) (adm m H.ok) 1).N (W10 m gg c) (arr_exit m gg H c)]
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-- The launch element: the pipeline library's at the staging cells and the pipelines' transfers; no counter yet. -/
def u₀ (hok : ok1 (tbl (F := F) m)) : UU nD τ :=
  (initOf (Pipeline.cells (Pipeline.pin (pcfgs (F := F)) (adm m hok)) (cellOf_inj (adm m hok)))
    (Pipeline.launchToks (Pipeline.pin (pcfgs (F := F)) (adm m hok)) (cellOf_inj (adm m hok))), 1)

/-- The library's part of the user algebra. -/
abbrev EP : Emb (URounds (GSem nD τ sig) Unit) 𝕄 := embL

/-- The buffers at the end: the result reshaped and transposed. -/
abbrev W11 (c : Dev nD) : Valuation τ sig (Elt F) := StableHlo.after hostOps2 (W10 m gg c)

/-- What the generated text calls the buffers at the end. -/
theorem V11_eq (c : Dev nD) : V11 m (outs m gg) c = W11 m gg c := by
  unfold V11
  rw [V10_eq]

set_option backward.isDefEq.respectTransparency.types false in
/-- THE RUN: from any memory whose tables the second region admits, with zero counters, every weakly fair execution
terminates; every final state has each unscoped buffer at the contents the host operations and the two regions give it,
and every semaphore counter at zero. -/
theorem run_main (H : Sorted m gg ord) (ρ : Dev nD → PrngReg) :
    θ_run defs (onTc (τ := τ) (main (F := F))) ⟨m, fun _ => 0, ρ⟩ (fun r =>
      (∀ c : Dev nD, ∀ b : Ref sig .tc, b.isScoped = false → r.2.mem ((c : Thread nD τ).loc b) = W11 m gg c b) ∧ r.2.sem = fun _ => 0) := by
  refine Pipeline.θ_run_regions_kit_dev_sems (pcfgs (F := F)) (adm m H.ok) (pdats m H.ok) () (cellOf_inj (adm m H.ok)) EP defs₀ Variants.none L lv m ρ main
    (segs m (outs m gg) Variants.none L lv (fun _ => R) () (adm m H.ok) (pdats m H.ok) (R0 m H.ok) (R1 m gg H))
    (fun c Q => by
      rewrite [main_chain c, Pipeline.Seg.run_eq_chain,
        show (segs m (outs m gg) Variants.none L lv (fun _ => R) () (adm m H.ok) (pdats m H.ok) (R0 m H.ok) (R1 m gg H) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          Prog.lift (.customCall (Pipeline.entry 0) ()), Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) 0 (fun _ _ => rfl) (fun _ => iprop(emp)) (u₀ m H.ok) ?_
    (T₀ := fun c => iprop(StableHlo.held (c : Thread nD τ) (ucRefs τ sig) (V0 m c) ∗ R c))
    (Tₙ := fun c => StableHlo.held (c : Thread nD τ) (ucRefs τ sig) (V11 m (outs m gg) c))
    (hch := fun c => ⟨.rfl, .rfl, .rfl, .rfl, .rfl, .rfl, .rfl, .rfl, .rfl, .rfl,
      Entails.of_eq (show iprop(StableHlo.held (c : Thread nD τ) (ucRefs τ sig) (W10 m gg c) ∗ R c) = (iprop(StableHlo.held (c : Thread nD τ) (ucRefs τ sig) (V10 m (outs m gg) c) ∗ R c) : sProp 𝕄) from by rw [V10_eq]), .rfl⟩)
    (hinit := ?_) (QY := fun c s => ∀ b : Ref sig .tc, b.isScoped = false → s.mem ((c : Thread nD τ).loc b) = W11 m gg c b)
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (ucRefs τ sig) (V0 m c) from Pipeline.unscopedBufs_held c (V0 m c)]
    iintro ⟨⟨Hh, -, HO, -, -, -⟩, -⟩
    imodintro
    isplitl [Hh]; · iexact Hh
    iexists ∅; iexact HO
  · rw [V11_eq]
    unfold StableHlo.held
    iintro ⟨Hh, HSI⟩
    ihave Hr := (pointsTo_read_all (ucRefs τ sig) (fun b => ((c : Thread nD τ).1, b)) (W11 m gg c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

end Cert.Proof.Segments

end
-- ==== Proof.Tables.lean ====
module

public import proofs.«01_k».proof.Proof.HostTables
public import proofs.«01_k».proof.Proof.Segments

/-! With the index arrays in range, the two tables are what the second region needs: the order reaches every sample, and
every block they name lies inside its array. -/

@[expose] public section

noncomputable section

namespace Cert.Proof.Tables

open Cert.KernelIdeal Cert.KernelIdeal.Gen
open Idealize.ShloMosaic
open Idealize.ShloMosaic.TcCoe
open Cert.Proof.Segments (tbl Sorted)

variable {F : FTy → Type} [FloatOps F]
variable (m : (b : Loc nD τ sig) → Buf (Elt F) b)

/-- The day of a sample. -/
def day (b : Fin 128) : ℕ := BitVec.toNat ((m ((0 : Dev nD).tc.loc main_arg0) : S128.Idx → BitVec 32) (ValueIdx.ix1 b))

/-- The step of a sample. -/
def step (b : Fin 128) : ℕ := BitVec.toNat ((m ((0 : Dev nD).tc.loc main_arg1) : S128.Idx → BitVec 32) (ValueIdx.ix1 b))

/-- The group of a sample. -/
def gg (b : Fin 128) : Fin 48 := ⟨(4 * (day m b / 31) + step m b / 12) % 48, Nat.mod_lt _ (by decide)⟩

/-- The index arrays are in range. -/
def InRange : Prop := ∀ b : Fin 128, day m b < 365 ∧ step m b < 48

/-- With the index arrays in range, the number of a group is not cut off at 48. -/
theorem gg_val (h : InRange m) (b : Fin 128) : (gg m b).val = 4 * (day m b / 31) + step m b / 12 := by
  have := h b
  show (4 * (day m b / 31) + step m b / 12) % 48 = _
  omega

/-- A word is the word of its value. -/
theorem ofNat_toNat32 (w : BitVec 32) : BitVec.ofNat 32 w.toNat = w :=
  BitVec.eq_of_toNat_eq (by rw [BitVec.toNat_ofNat]; exact Nat.mod_eq_of_lt w.isLt)

/-- The word of a sample's group. -/
theorem group_word (h : InRange m) (b : Fin 128) :
    (V8 m 0 main_v4 : S128.Idx → BitVec 32) (ValueIdx.ix1 b) = BitVec.ofNat 32 (gg m b).val := by
  rw [read_group, gg_val m h]
  exact gword_at _ _ b (ofNat_toNat32 _).symm (ofNat_toNat32 _).symm (h b).1 (h b).2

/-- A table's word at a grid point. -/
theorem table_word (pf : S128.Idx → BitVec 32) (i : grid1.Coords) :
    pf ((Rect.unit (s := S128) (k1_off1 i) S1.size (k1_off1_inb i)).emb (Shape.Idx.first (show 0 < S1.numel by decide)))
      = pf (ValueIdx.ix1 ⟨(i 0).val, (i 0).isLt⟩) := by
  congr 1
  funext b
  apply Fin.ext
  fin_cases b
  show k1_off1 i 0 + 1 * 0 = (i 0).val
  have h : (i 0).val < 128 := (i 0).isLt
  show (BitVec.ofNat 32 (i 0).val).toNat + 1 * 0 = _
  rw [BitVec.toNat_ofNat]
  omega

/-- Blocks named by tables whose words are below the arrays' extents lie inside the arrays. -/
theorem ok_of_lt (pf : pre1.Contents (Elt F)) (h0 : ∀ t : Fin 128, ((pf 0 : S128.Idx → BitVec 32) (ValueIdx.ix1 t)).toNat < 48)
    (h1 : ∀ t : Fin 128, ((pf 1 : S128.Idx → BitVec 32) (ValueIdx.ix1 t)).toNat < 128) : ok1 pf := by
  have w0 : ∀ i, cc1_transform_0 k1_off1_inb numel1_S1 pf i = ![((pf 1 : S128.Idx → BitVec 32) (ValueIdx.ix1 ⟨(i 0).val, (i 0).isLt⟩)).toNat, 0, 0] :=
    fun i => congrArg (fun w : BitVec 32 => ![w.toNat, 0, 0]) (table_word (pf 1) i)
  have w1 : ∀ i, cc1_transform_1 k1_off1_inb numel1_S1 pf i = ![((pf 0 : S128.Idx → BitVec 32) (ValueIdx.ix1 ⟨(i 0).val, (i 0).isLt⟩)).toNat, 0, 0, 0, 0] :=
    fun i => congrArg (fun w : BitVec 32 => ![w.toNat, 0, 0, 0, 0]) (table_word (pf 0) i)
  have w2 : ∀ i, cc1_transform_2 k1_off1_inb numel1_S1 pf i = ![((pf 0 : S128.Idx → BitVec 32) (ValueIdx.ix1 ⟨(i 0).val, (i 0).isLt⟩)).toNat, 0, 0, 0] :=
    fun i => congrArg (fun w : BitVec 32 => ![w.toNat, 0, 0, 0]) (table_word (pf 0) i)
  have w3 : ∀ i, cc1_transform_3 k1_off1_inb numel1_S1 pf i = ![((pf 1 : S128.Idx → BitVec 32) (ValueIdx.ix1 ⟨(i 0).val, (i 0).isLt⟩)).toNat, 0, 0] :=
    fun i => congrArg (fun w : BitVec 32 => ![w.toNat, 0, 0]) (table_word (pf 1) i)
  refine ⟨fun i => ⟨fun a => ?_, Or.inr (Or.inr ⟨by decide, rfl, ?_, rfl⟩)⟩, fun i => ⟨fun a => ?_, Or.inl rfl⟩, fun i => ⟨fun a => ?_, Or.inl rfl⟩, fun i => ⟨fun a => ?_, Or.inl rfl⟩⟩
  · rw [w0]
    have := h1 ⟨(i 0).val, (i 0).isLt⟩
    fin_cases a
    · exact (Nat.mul_one _).le.trans this
    · show (0 + 1) * 8 ≤ 8; omega
    · show (0 + 1) * 10000 ≤ 10000; omega
  · show cc1_transform_0 k1_off1_inb numel1_S1 pf i 1 * 8 = 0
    rw [w0]
    rfl
  · rw [w1]
    have := h0 ⟨(i 0).val, (i 0).isLt⟩
    fin_cases a
    · exact (Nat.mul_one _).le.trans this
    · show (0 + 1) * 8 ≤ 8; omega
    · show (0 + 1) * 2 ≤ 2; omega
    · show (0 + 1) * 2 ≤ 2; omega
    · show (0 + 1) * 10000 ≤ 10000; omega
  · rw [w2]
    have := h0 ⟨(i 0).val, (i 0).isLt⟩
    fin_cases a
    · exact (Nat.mul_one _).le.trans this
    · show (0 + 1) * 2 ≤ 2; omega
    · show (0 + 1) * 2 ≤ 2; omega
    · show (0 + 1) * 10000 ≤ 10000; omega
  · rw [w3]
    have := h1 ⟨(i 0).val, (i 0).isLt⟩
    fin_cases a
    · exact (Nat.mul_one _).le.trans this
    · show (0 + 1) * 4 ≤ 4; omega
    · show (0 + 1) * 10000 ≤ 10000; omega

/-- With the index arrays in range the tables are what the second region needs. -/
theorem sorted (h : InRange m) : ∃ ord, Sorted m (gg m) ord := by
  obtain ⟨ord, hsurj, hord⟩ := order_perm (V8 m 0 main_v4 : S128.Idx → BitVec 32)
  have e1 : ∀ t : Fin 128, (tbl m 1 : S128.Idx → BitVec 32) (ValueIdx.ix1 t) = BitVec.ofNat 32 (ord t).val := fun t =>
    (congrFun (read_order m 0) (ValueIdx.ix1 t)).trans (hord t)
  have e0 : ∀ t : Fin 128, (tbl m 0 : S128.Idx → BitVec 32) (ValueIdx.ix1 t) = BitVec.ofNat 32 (gg m (ord t)).val := fun t =>
    ((congrFun (read_sorted m 0) (ValueIdx.ix1 t)).trans (taken_at _ _ ord e1 t)).trans (group_word m h (ord t))
  have n1 : ∀ t : Fin 128, ((tbl m 1 : S128.Idx → BitVec 32) (ValueIdx.ix1 t)).toNat = (ord t).val := fun t => by
    rw [e1, BitVec.toNat_ofNat]
    have := (ord t).isLt
    omega
  have n0 : ∀ t : Fin 128, ((tbl m 0 : S128.Idx → BitVec 32) (ValueIdx.ix1 t)).toNat = (gg m (ord t)).val := fun t => by
    rw [e0, BitVec.toNat_ofNat]
    have := (gg m (ord t)).isLt
    omega
  exact ⟨ord, ok_of_lt _ (fun t => by rw [n0]; exact (gg m (ord t)).isLt) (fun t => by rw [n1]; exact (ord t).isLt), n1, n0, hsurj⟩

end Cert.Proof.Tables
-- ==== Proof.Run.lean ====
module

public import proofs.«01_k».proof.Proof.Tables
public import Idealize.ShloMosaic.Lib.Claim

/-! The run of the kernel's program from arguments in range: what the result and the arguments end holding. -/

@[expose] public section

noncomputable section

namespace Cert.Proof.Run

open Cert.KernelIdeal Cert.KernelIdeal.Gen
open Idealize.ShloMosaic Idealize.SL.Sem
open Idealize.ShloMosaic.TcCoe
open Cert.Proof.Segments (outs W11 V11_eq run_main)
open Cert.Proof.Tables (InRange gg sorted)

variable {F : FTy → Type} [FloatOps F]

/-- Every run from arguments in range ends with the result computed, the arguments unchanged and every semaphore at zero. -/
theorem run (m : (b : Loc nD τ sig) → Buf (Elt F) b) (h : InRange m) (g : Dev nD → PrngReg) :
    θ_run defs (onTc (main (F := F))) ⟨m, fun _ => 0, g⟩ (fun r => (∀ c : Dev nD,
      r.2.mem ((c.tc : Thread nD τ).loc main_v15) = W11 m (gg m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  obtain ⟨ord, H⟩ := sorted m h
  refine θ_run_mono (run_main m (gg m) H g) fun r hr => ⟨fun c => ⟨hr.1 c _ rfl, ?_, ?_, ?_, ?_, ?_⟩, hr.2⟩
  · exact ((hr.1 c main_arg0 rfl).trans (congrFun (V11_eq m (gg m) c).symm _)).trans (V11_main_arg0 m (outs m (gg m)) c)
  · exact ((hr.1 c main_arg1 rfl).trans (congrFun (V11_eq m (gg m) c).symm _)).trans (V11_main_arg1 m (outs m (gg m)) c)
  · exact ((hr.1 c main_arg2 rfl).trans (congrFun (V11_eq m (gg m) c).symm _)).trans (V11_main_arg2 m (outs m (gg m)) c)
  · exact ((hr.1 c main_arg3 rfl).trans (congrFun (V11_eq m (gg m) c).symm _)).trans (V11_main_arg3 m (outs m (gg m)) c)
  · exact ((hr.1 c main_arg4 rfl).trans (congrFun (V11_eq m (gg m) c).symm _)).trans (V11_main_arg4 m (outs m (gg m)) c)

end Cert.Proof.Run
-- ==== Proof.SameProgram.lean ====
module

public import proofs.«01_k».proof.Proof.Gen.Kernel.Regions
public import proofs.«01_k».proof.Proof.Gen.KernelIdeal.Regions

/-! The program as printed and the idealized one are one program: their kernels, their host operations and their order are
the same, whatever the float values are. So a run of the one is a run of the other. -/

@[expose] public section

noncomputable section

namespace Cert.Proof.SameProgram

open Idealize.ShloMosaic Idealize.SL.Sem

section

variable {nD : ℕ} {τ : Topo} {sig : RefSig} {Val : EltTy → Type} {Λ₀ : Labels}

/-- Eight stretches of host operations, two pipelines, and a last stretch. -/
def order (cf : Fin 2 → Pipeline.PCfg sig Λ₀ Val) (l : Fin 9 → List (HloOp τ sig Val)) :
    Prog (TpuEff nD τ sig Val (Pipeline.Sig Λ₀ (Fin 2) fun p => (cf p).Adm) .tc) PUnit :=
  Pipeline.chain [StableHlo.seq (l 0), StableHlo.seq (l 1), StableHlo.seq (l 2), StableHlo.seq (l 3), StableHlo.seq (l 4), StableHlo.seq (l 5),
    StableHlo.seq (l 6), StableHlo.seq (l 7), Prog.lift (.customCall (Pipeline.entry 0) ()), Prog.lift (.customCall (Pipeline.entry 1) ()),
    StableHlo.seq (l 8)]

/-- Two such programs with the same pipelines, kernels and host operations have the same runs. -/
theorem run_congr {cf cf' : Fin 2 → Pipeline.PCfg sig Λ₀ Val} {d d' : Defs nD τ sig Val Λ₀} {l l' : Fin 9 → List (HloOp τ sig Val)}
    (hc : cf = cf') (hd : d = d') (hl : ∀ i, l i = l' i) {s : MemSt nD τ sig Val} {Q : PUnit × MemSt nD τ sig Val → Prop}
    (h : θ_run (Pipeline.defs cf' d') (onTc fun _ => order cf' l') s Q) : θ_run (Pipeline.defs cf d) (onTc fun _ => order cf l) s Q := by
  subst hc hd
  obtain rfl := funext hl
  exact h

end

variable {F : FTy → Type} [FloatOps F]

/-- The stretches of host operations of the program as printed. -/
def opsP : Fin 9 → List (HloOp Cert.Kernel.τ Cert.Kernel.sig (Elt F)) :=
  ![Cert.Kernel.Gen.hostOps0, Cert.Kernel.Gen.hostOps0_1, Cert.Kernel.Gen.hostOps0_2, Cert.Kernel.Gen.hostOps0_3, Cert.Kernel.Gen.hostOps0_4,
    Cert.Kernel.Gen.hostOps0_5, Cert.Kernel.Gen.hostOps0_6, Cert.Kernel.Gen.hostOps0_7, Cert.Kernel.Gen.hostOps2]

/-- The stretches of host operations of the idealized program. -/
def opsI : Fin 9 → List (HloOp Cert.KernelIdeal.τ Cert.KernelIdeal.sig (Elt F)) :=
  ![Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    Cert.KernelIdeal.Gen.hostOps2]

/-- The two programs launch the same pipelines. -/
theorem pcfgs_eq : Cert.Kernel.pcfgs (F := F) = Cert.KernelIdeal.pcfgs (F := F) := rfl

/-- The two programs' kernels are the same. -/
theorem defs₀_eq : Cert.Kernel.defs₀ (F := F) = Cert.KernelIdeal.defs₀ (F := F) := by
  unfold Cert.Kernel.defs₀ Cert.KernelIdeal.defs₀
  exact congrArg Defs.onTc (funext fun | 0 => rfl | 1 => rfl)

/-- The two programs' host operations are the same. -/
theorem ops_eq : ∀ i, opsP (F := F) i = opsI (F := F) i
  | 0 => rfl | 1 => rfl | 2 => rfl | 3 => rfl | 4 => rfl | 5 => rfl | 6 => rfl | 7 => rfl | 8 => rfl

/-- The program as printed, in its order. -/
theorem main_P : Cert.Kernel.main (F := F) = fun _ => order Cert.Kernel.pcfgs opsP := funext Cert.Kernel.Gen.main_chain

/-- The idealized program, in its order. -/
theorem main_I : Cert.KernelIdeal.main (F := F) = fun _ => order Cert.KernelIdeal.pcfgs opsI := funext Cert.KernelIdeal.Gen.main_chain

/-- A run of the idealized program is a run of the program as printed. -/
theorem run_of_ideal {s : MemSt Cert.KernelIdeal.nD Cert.KernelIdeal.τ Cert.KernelIdeal.sig (Elt F)}
    {Q : PUnit × MemSt Cert.KernelIdeal.nD Cert.KernelIdeal.τ Cert.KernelIdeal.sig (Elt F) → Prop}
    (h : θ_run Cert.KernelIdeal.defs (onTc (Cert.KernelIdeal.main (F := F))) s Q) : θ_run Cert.Kernel.defs (onTc (Cert.Kernel.main (F := F))) s Q := by
  rw [main_I] at h
  rw [main_P]
  exact run_congr pcfgs_eq defs₀_eq ops_eq h

end Cert.Proof.SameProgram
-- ==== Proof.KernelValue.lean ====
module

public import proofs.«01_k».proof.Proof.Segments
public import Idealize.ShloMosaic.Lib.Pointwise
public import Idealize.ShloMosaic.Lib.Claim

/-! What the kernel's program computes over the extended reals, read at an index: for sample `b`, station `n` and the
output place `(f, k)`, the eight products of a coefficient of the sample's group and a feature, added in pairs, plus the
group's bias. -/

@[expose] public section

set_option maxRecDepth 16384

noncomputable section

namespace Cert.Proof.KernelValue

open Cert.KernelIdeal Cert.KernelIdeal.Gen
open Idealize.ShloMosaic
open Idealize.ShloMosaic.TcCoe
open Cert.Proof.Compute (OUT)
open Cert.Proof.Transpose (FT feats)
open Cert.Proof.Segments (W9 W9_of W9_v12 W10_v13 W11)

/-- The eight terms as the kernel adds them. -/
def tree (t : Fin 8 → EReal) : EReal := ((t 0 + t 1) + (t 2 + t 3)) + ((t 4 + t 5) + (t 6 + t 7))

/-- The order of the additions does not matter. -/
theorem tree_eq_sum (t : Fin 8 → EReal) : tree t = ∑ q : Fin 8, t q := by
  simp only [Fin.sum_univ_eight, tree]
  ac_rfl

/-- The second kernel's payload at an index of its block. -/
theorem payload_at (A : Vec Ideal S1x8x10000 .bf16) (C : Vec Ideal S1x8x2x2x10000 .f32) (B : Vec Ideal S1x2x2x10000 .f32)
    (n : Fin 10000) (f k : Fin 2) :
    k1_pay3 A (k1_pay1 C) (k1_pay2 B) (ix3 0 ⟨2 * f.val + k.val, by omega⟩ n)
      = tree (fun q => C (ix5 0 q f k n) * A (ix3 0 q n)) + B (ix4 0 f k n) := by
  fin_cases f <;> fin_cases k <;> pointwise [k1_pay3, k1_pay1, k1_pay2, tree]

/-- The features as the first region reads them. -/
theorem read_feats (m : (b : Loc nD τ sig) → Buf (Elt Ideal) b) (c : Dev nD) :
    V8 m c main_v7 = transpose S2x10000x8x128 [1, 2, 3, 0] (m (c.tc.loc main_arg2)) transposes_S128x2x10000x8_S2x10000x8x128_1_2_3_0 := by
  unfold_abbrev_sides
  after_results

/-- The coefficients as the second region reads them. -/
theorem read_coefs (m : (b : Loc nD τ sig) → Buf (Elt Ideal) b) (c : Dev nD) :
    V8 m c main_v9 = shapeCast S48x8x2x2x10000 (transpose S12x4x8x2x2x10000 [0, 1, 3, 4, 5, 2] (m (c.tc.loc main_arg3) : FVec Ideal S12x4x10000x8x2x2 .f32) transposes_S12x4x10000x8x2x2_S12x4x8x2x2x10000_0_1_3_4_5_2) shapeCasts_S12x4x8x2x2x10000_S48x8x2x2x10000 := by
  unfold_abbrev_sides
  after_results
  rfl

/-- The biases as the second region reads them. -/
theorem read_biases (m : (b : Loc nD τ sig) → Buf (Elt Ideal) b) (c : Dev nD) :
    V8 m c main_v11 = shapeCast S48x2x2x10000 (transpose S12x4x2x2x10000 [0, 1, 3, 4, 2] (m (c.tc.loc main_arg4) : FVec Ideal S12x4x10000x2x2 .f32) transposes_S12x4x10000x2x2_S12x4x2x2x10000_0_1_3_4_2) shapeCasts_S12x4x2x2x10000_S48x2x2x10000 := by
  unfold_abbrev_sides
  after_results
  rfl

/-- What the last host operations make of the second region's result. -/
theorem after_out (V : Valuation τ sig (Elt Ideal)) : StableHlo.after hostOps2 V main_v15
    = transpose S128x10000x2x2 [0, 3, 1, 2] (shapeCast S128x2x2x10000 (V main_v13 : FVec Ideal S128x4x10000 .f32) shapeCasts_S128x4x10000_S128x2x2x10000) transposes_S128x2x2x10000_S128x10000x2x2_0_3_1_2 := by
  after_results
  rfl

/-- The transposed features, at an index. -/
theorem feats_at (x : FVec Ideal S128x2x10000x8 .f32) (n : Fin 10000) (q : Fin 8) (b : Fin 128) :
    transpose S2x10000x8x128 [1, 2, 3, 0] x transposes_S128x2x10000x8_S2x10000x8x128_1_2_3_0 (ix4 0 n q b) = x (ix4 b 0 n q) := by
  pointwise

/-- The coefficients of a group, at an index. -/
theorem coefs_at (x : FVec Ideal S12x4x10000x8x2x2 .f32) (t : Fin 12) (s : Fin 4) (g : Fin 48) (hg : g.val = 4 * t.val + s.val) (n : Fin 10000) (q : Fin 8) (f k : Fin 2) :
    shapeCast S48x8x2x2x10000 (transpose S12x4x8x2x2x10000 [0, 1, 3, 4, 5, 2] x transposes_S12x4x10000x8x2x2_S12x4x8x2x2x10000_0_1_3_4_5_2) shapeCasts_S12x4x8x2x2x10000_S48x8x2x2x10000 (ix5 g q f k n)
      = x (ix6 t s n q f k) := by
  pointwise
  exact congrArg₂ (fun t s => x (ix6 t s n q f k)) (Fin.ext (by show g.val / 4 = t.val; omega)) (Fin.ext (by show g.val % 4 = s.val; omega))

/-- The biases of a group, at an index. -/
theorem biases_at (x : FVec Ideal S12x4x10000x2x2 .f32) (t : Fin 12) (s : Fin 4) (g : Fin 48) (hg : g.val = 4 * t.val + s.val) (n : Fin 10000) (f k : Fin 2) :
    shapeCast S48x2x2x10000 (transpose S12x4x2x2x10000 [0, 1, 3, 4, 2] x transposes_S12x4x10000x2x2_S12x4x2x2x10000_0_1_3_4_2) shapeCasts_S12x4x2x2x10000_S48x2x2x10000 (ix4 g f k n)
      = x (ix5 t s n f k) := by
  pointwise
  exact congrArg₂ (fun t s => x (ix5 t s n f k)) (Fin.ext (by show g.val / 4 = t.val; omega)) (Fin.ext (by show g.val % 4 = s.val; omega))

/-- The result, at an index: its last two places are a row of the second region's result. -/
theorem out_at (x : FVec Ideal S128x4x10000 .f32) (b : Fin 128) (n : Fin 10000) (f k : Fin 2) :
    transpose S128x10000x2x2 [0, 3, 1, 2] (shapeCast S128x2x2x10000 x shapeCasts_S128x4x10000_S128x2x2x10000) transposes_S128x2x2x10000_S128x10000x2x2_0_3_1_2 (ix4 b n f k)
      = x (ix3 b ⟨2 * f.val + k.val, by omega⟩ n) := by
  pointwise
  exact congrArg (fun i => x (ix3 b i n)) (Fin.ext (by show f.val * 2 + k.val = 2 * f.val + k.val; omega))

variable (m : (b : Loc nD τ sig) → Buf (Elt Ideal) b) (gg : Fin 128 → Fin 48)

/-- The features the program is given. -/
def featArg (c : Dev nD) : FVec Ideal S128x2x10000x8 .f32 := m (c.tc.loc main_arg2)
/-- The coefficients the program is given. -/
def coefArg (c : Dev nD) : FVec Ideal S12x4x10000x8x2x2 .f32 := m (c.tc.loc main_arg3)
/-- The biases the program is given. -/
def biasArg (c : Dev nD) : FVec Ideal S12x4x10000x2x2 .f32 := m (c.tc.loc main_arg4)

/-- The rounded features the second region reads, at an index: over the extended reals they are the features. -/
theorem read_FT (c : Dev nD) (b : Fin 128) (q : Fin 8) (n : Fin 10000) :
    (W9 m c main_v12 : FVec Ideal S128x8x10000 .bf16) (ix3 b q n) = featArg m c (ix4 b 0 n q) := by
  rw [W9_v12]
  show feats (V8 m c) (ix4 0 n q b) = _
  show (V8 m c main_v7 : FVec Ideal S2x10000x8x128 .f32) (ix4 0 n q b) = _
  rw [read_feats]
  exact feats_at _ n q b

/-- The kernel's result at an index, a sample's group being named by `t` and `s`. -/
theorem value_at (c : Dev nD) (b : Fin 128) (t : Fin 12) (s : Fin 4) (hg : (gg b).val = 4 * t.val + s.val) (n : Fin 10000) (f k : Fin 2) :
    (W11 m gg c main_v15 : FVec Ideal S128x10000x2x2 .f32) (ix4 b n f k)
      = biasArg m c (ix5 t s n f k)
        + ∑ q : Fin 8, coefArg m c (ix6 t s n q f k)
          * featArg m c (ix4 b 0 n q) := by
  have h9 : W9 m c main_v9 = V8 m c main_v9 := W9_of m c _ (by decide)
  have h11 : W9 m c main_v11 = V8 m c main_v11 := W9_of m c _ (by decide)
  unfold W11
  rw [after_out, W10_v13]
  refine (out_at _ b n f k).trans ((payload_at _ _ _ n f k).trans ?_)
  rw [tree_eq_sum, add_comm, h9, h11, read_coefs, read_biases]
  refine congrArg₂ (· + ·) (biases_at _ t s _ hg n f k) (Finset.sum_congr rfl fun q _ => ?_)
  exact congrArg₂ (· * ·) (coefs_at _ t s _ hg n q f k) (read_FT m c b q n)

end Cert.Proof.KernelValue
-- ==== Proof.ReferenceValue.lean ====
module

public import proofs.«01_k».proof.Proof.Gen.ReferenceIdeal
public import Idealize.ShloMosaic.Lib.Pointwise
public import Idealize.ShloMosaic.Lib.Routing.Words
public import Idealize.ShloMosaic.Lib.IdealHost

/-! What the reference computes, read at an index: for sample `b`, station `n` and the output place `(f, k)`, the bias of
the sample's group plus the sum over the eight features of the group's coefficient times the feature. -/

@[expose] public section

noncomputable section

namespace Cert.Proof.Reference

open Cert.ReferenceIdeal Cert.ReferenceIdeal.Gen
open Idealize.ShloMosaic
open Idealize.ShloMosaic.Routing (pyDiv)

/-- An index, with `n` added to a negative one. -/
def wrap (n : BitVec 32) (o : IVec S128 32) : IVec S128 32 :=
  select (cmpi .slt o (broadcastInDim S128 ![] bcast_S_S128 (constantI S_ 32 0#32)))
    (addi o (broadcastInDim S128 ![] bcast_S_S128 (constantI S_ 32 n))) o

/-- The two index words of every sample: the day by 31 and the step by 12. -/
def pair (x y : IVec S128 32) : IVec S128x2 32 :=
  concatenate S128x2 1 [⟨S128x1, broadcastInDim S128x1 ![0] bcast_S128_S128x1_0 (wrap 12#32 (pyDiv bcast_S_S128 x (constantI S_ 32 31#32)))⟩,
    ⟨S128x1, broadcastInDim S128x1 ![0] bcast_S128_S128x1_0 (wrap 4#32 (pyDiv bcast_S_S128 y (constantI S_ 32 12#32)))⟩] concatenates_S128x1_S128x1_S128x2_d1

/-- The reference's result. -/
def refVal (x y : IVec S128 32) (feat : FVec Ideal S128x2x10000x8 .f32) (cs : FVec Ideal S12x4x10000x8x2x2 .f32)
    (bs : FVec Ideal S12x4x10000x2x2 .f32) : FVec Ideal S128x10000x2x2 .f32 :=
  addf (Host.gather gather_S12x4x10000x2x2_S128x2_S128x10000x2x2_123_01_n_n_01_1_111000022 bs (pair x y))
    (Host.reduceAdd (mulf (Host.gather gather_S12x4x10000x8x2x2_S128x2_S128x10000x8x2x2_1234_01_n_n_01_1_1110000822 cs (pair x y))
      (broadcastInDim S128x10000x8x2x2 ![0, 1, 2, 3, 4] bcast_S128x10000x8x1x1_S128x10000x8x2x2_0_1_2_3_4
        (broadcastInDim S128x10000x8x1x1 ![0, 1, 2] bcast_S128x10000x8_S128x10000x8x1x1_0_1_2
          (shapeCast S128x10000x8 (extractStridedSlice S128x1x10000x8 ![0, 0, 0, 0] feat slices_S128x2x10000x8_S128x1x10000x8_0_0_0_0)
            shapeCasts_S128x1x10000x8_S128x10000x8))))
      (constant S_ .f32 0x00000000#32) reducesTo_S128x10000x8x2x2_S128x10000x2x2_d2 h_S_)

/-- An index that is not negative is not changed. -/
theorem wrap_at (n : BitVec 32) (o : IVec S128 32) (b : Fin 128) {k : ℕ} (ho : o (ix1 b) = BitVec.ofNat 32 k) (hk : k < 128) :
    wrap n o (ix1 b) = BitVec.ofNat 32 k := by
  show Scalar.select (IntOp.cmpi .slt (o (ix1 b)) 0#32) _ (o (ix1 b)) = _
  rw [ho, show (0#32 : BitVec 32) = BitVec.ofNat 32 0 from rfl, WordCmp.cmpi_slt_ofNat (w := 32) (by omega) (by omega)]
  simp [Scalar.select]

/-- A small index word, clamped to a bound it does not pass, is its number. -/
theorem clamp_word {w : BitVec 32} {k n : ℕ} (hw : w = BitVec.ofNat 32 k) (hk : k ≤ n) (hn : n < 128 := by decide) :
    min w.toInt.toNat n = k := by
  have h : w.toInt = k := by
    rw [hw, BitVec.toInt_eq_toNat_cond, BitVec.toNat_ofNat]
    split <;> omega
  rw [h]
  omega

section
variable (x y : IVec S128 32) (b : Fin 128) {d s : ℕ} (hx : x (ix1 b) = BitVec.ofNat 32 d)
  (hy : y (ix1 b) = BitVec.ofNat 32 s) (hd : d < 365) (hs : s < 48)
include hx hy hd hs

/-- The first index word of a sample. -/
theorem pair_0 : pair x y (ix2 b 0) = BitVec.ofNat 32 (d / 31) := by
  unfold pair
  pointwise
  exact wrap_at _ _ b (Routing.pyDiv_ap bcast_S_S128 x _ _ hx (b := 31) rfl (by omega) (by omega) (by omega)) (by omega)

/-- The second index word of a sample. -/
theorem pair_1 : pair x y (ix2 b 1) = BitVec.ofNat 32 (s / 12) := by
  unfold pair
  pointwise
  exact wrap_at _ _ b (Routing.pyDiv_ap bcast_S_S128 y _ _ hy (b := 12) rfl (by omega) (by omega) (by omega)) (by omega)

/-- The coefficients gathered for a sample are its group's. -/
theorem gather_cs (cs : FVec Ideal S12x4x10000x8x2x2 .f32) (n : Fin 10000) (q : Fin 8) (f k : Fin 2) :
    Host.gather gather_S12x4x10000x8x2x2_S128x2_S128x10000x8x2x2_1234_01_n_n_01_1_1110000822 cs (pair x y) (ix5 b n q f k)
      = cs (ix6 ⟨d / 31, by omega⟩ ⟨s / 12, by omega⟩ n q f k) := by
  have h0 := clamp_word (n := 11) (pair_0 x y b hx hy hd hs) (by omega)
  have h1 := clamp_word (n := 3) (pair_1 x y b hx hy hd hs) (by omega)
  unfold Host.gather
  congr 1
  funext a
  apply Fin.ext
  show GatherDims.start _ _ _ a + GatherDims.batchCoord _ _ a + GatherDims.offCoord _ _ a = _
  rw [GatherDims.batchCoord_eq_zero _ _ _ List.not_mem_nil]
  match a with
  | ⟨0, _⟩ =>
    rw [GatherDims.offCoord_eq_zero _ _ _ (by decide +revert)]
    unfold GatherDims.start
    rw [dif_pos (by decide +revert)]
    refine Eq.trans (congrArg (fun i => min ((pair x y i).toInt.toNat) 11) ?_) h0
    funext e
    fin_cases e <;> rfl
  | ⟨1, _⟩ =>
    rw [GatherDims.offCoord_eq_zero _ _ _ (by decide +revert)]
    unfold GatherDims.start
    rw [dif_pos (by decide +revert)]
    refine Eq.trans (congrArg (fun i => min ((pair x y i).toInt.toNat) 3) ?_) h1
    funext e
    fin_cases e <;> rfl
  | ⟨2, _⟩ => unfold GatherDims.start GatherDims.offCoord; rw [dif_neg (by decide +revert), dif_pos (by decide +revert)]; exact Nat.zero_add _
  | ⟨3, _⟩ => unfold GatherDims.start GatherDims.offCoord; rw [dif_neg (by decide +revert), dif_pos (by decide +revert)]; exact Nat.zero_add _
  | ⟨4, _⟩ => unfold GatherDims.start GatherDims.offCoord; rw [dif_neg (by decide +revert), dif_pos (by decide +revert)]; exact Nat.zero_add _
  | ⟨5, _⟩ => unfold GatherDims.start GatherDims.offCoord; rw [dif_neg (by decide +revert), dif_pos (by decide +revert)]; exact Nat.zero_add _

/-- The biases gathered for a sample are its group's. -/
theorem gather_bs (bs : FVec Ideal S12x4x10000x2x2 .f32) (n : Fin 10000) (f k : Fin 2) :
    Host.gather gather_S12x4x10000x2x2_S128x2_S128x10000x2x2_123_01_n_n_01_1_111000022 bs (pair x y) (ix4 b n f k)
      = bs (ix5 ⟨d / 31, by omega⟩ ⟨s / 12, by omega⟩ n f k) := by
  have h0 := clamp_word (n := 11) (pair_0 x y b hx hy hd hs) (by omega)
  have h1 := clamp_word (n := 3) (pair_1 x y b hx hy hd hs) (by omega)
  unfold Host.gather
  congr 1
  funext a
  apply Fin.ext
  show GatherDims.start _ _ _ a + GatherDims.batchCoord _ _ a + GatherDims.offCoord _ _ a = _
  rw [GatherDims.batchCoord_eq_zero _ _ _ List.not_mem_nil]
  match a with
  | ⟨0, _⟩ =>
    rw [GatherDims.offCoord_eq_zero _ _ _ (by decide +revert)]
    unfold GatherDims.start
    rw [dif_pos (by decide +revert)]
    refine Eq.trans (congrArg (fun i => min ((pair x y i).toInt.toNat) 11) ?_) h0
    funext e
    fin_cases e <;> rfl
  | ⟨1, _⟩ =>
    rw [GatherDims.offCoord_eq_zero _ _ _ (by decide +revert)]
    unfold GatherDims.start
    rw [dif_pos (by decide +revert)]
    refine Eq.trans (congrArg (fun i => min ((pair x y i).toInt.toNat) 3) ?_) h1
    funext e
    fin_cases e <;> rfl
  | ⟨2, _⟩ => unfold GatherDims.start GatherDims.offCoord; rw [dif_neg (by decide +revert), dif_pos (by decide +revert)]; exact Nat.zero_add _
  | ⟨3, _⟩ => unfold GatherDims.start GatherDims.offCoord; rw [dif_neg (by decide +revert), dif_pos (by decide +revert)]; exact Nat.zero_add _
  | ⟨4, _⟩ => unfold GatherDims.start GatherDims.offCoord; rw [dif_neg (by decide +revert), dif_pos (by decide +revert)]; exact Nat.zero_add _

/-- The reference's result at an index. -/
theorem refVal_at (feat : FVec Ideal S128x2x10000x8 .f32) (cs : FVec Ideal S12x4x10000x8x2x2 .f32)
    (bs : FVec Ideal S12x4x10000x2x2 .f32) (n : Fin 10000) (f k : Fin 2) :
    refVal x y feat cs bs (ix4 b n f k) = bs (ix5 ⟨d / 31, by omega⟩ ⟨s / 12, by omega⟩ n f k)
      + ∑ q : Fin 8, cs (ix6 ⟨d / 31, by omega⟩ ⟨s / 12, by omega⟩ n q f k) * feat (ix4 b 0 n q) := by
  have hg := fun q => gather_cs x y b hx hy hd hs cs n q f k
  have hb := gather_bs x y b hx hy hd hs bs n f k
  unfold refVal
  generalize Host.gather gather_S12x4x10000x2x2_S128x2_S128x10000x2x2_123_01_n_n_01_1_111000022 bs (pair x y) = B at hb ⊢
  generalize Host.gather gather_S12x4x10000x8x2x2_S128x2_S128x10000x8x2x2_1234_01_n_n_01_1_1110000822 cs (pair x y) = C at hg ⊢
  pointwise
  simp only [hb, hg]

end

end Cert.Proof.Reference
-- ==== Proof.Equation.lean ====
module

public import proofs.«01_k».proof.Proof.KernelValue
public import proofs.«01_k».proof.Proof.ReferenceValue
public import proofs.«01_k».proof.Proof.Tables
public import proofs.«01_k».proof.Proof.Gen.ReferenceIdeal.Run

/-! The equation: with the index arrays in range, the kernel's result over the extended reals is the reference's. -/

@[expose] public section

noncomputable section

namespace Cert.Proof.Equation

open Cert.KernelIdeal Cert.KernelIdeal.Gen
open Idealize.ShloMosaic
open Idealize.ShloMosaic.TcCoe
open Cert.Proof.Segments (W11)
open Cert.Proof.Tables (InRange day step gg gg_val ofNat_toNat32)
open Cert.Proof.Reference (refVal refVal_at)
open Cert.Proof.KernelValue (value_at featArg coefArg biasArg)

variable (m : (b : Loc nD τ sig) → Buf (Elt Ideal) b)

/-- The kernel's result is the reference's, of the same arguments. -/
theorem result_eq (h : InRange m) (c : Dev nD) :
    (W11 m (gg m) c main_v15 : FVec Ideal S128x10000x2x2 .f32)
      = refVal (m (c.tc.loc main_arg0)) (m (c.tc.loc main_arg1)) (featArg m c) (coefArg m c) (biasArg m c) := by
  obtain rfl : c = 0 := Subsingleton.elim _ _
  funext i
  obtain ⟨b, n, f, k, rfl⟩ : ∃ (b : Fin 128) (n : Fin 10000) (f k : Fin 2), i = Idealize.ShloMosaic.ix4 b n f k :=
    ⟨i 0, i 1, i 2, i 3, by funext a; fin_cases a <;> rfl⟩
  have hb := h b
  have hd : day m b / 31 < 12 := by omega
  have hs : step m b / 12 < 4 := by omega
  refine (value_at m (gg m) 0 b ⟨day m b / 31, hd⟩ ⟨step m b / 12, hs⟩ (gg_val m h b) n f k).trans ?_
  exact (refVal_at _ _ b (d := day m b) (s := step m b) (ofNat_toNat32 _).symm (ofNat_toNat32 _).symm hb.1 hb.2 (featArg m 0) (coefArg m 0) (biasArg m 0) n f k).symm

/-- The term the reference's operations compose is the result named in this proof. -/
theorem reference_eq (m' : (b : Loc Cert.ReferenceIdeal.nD Cert.ReferenceIdeal.τ Cert.ReferenceIdeal.sig) → Buf (Elt Ideal) b) (c : Dev Cert.ReferenceIdeal.nD) :
    Cert.ReferenceIdeal.Value.res_out0 m' c = refVal (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3)) (m' (c.tc.loc Cert.ReferenceIdeal.main_arg4)) := by
  unfold Cert.ReferenceIdeal.Value.res_out0 Cert.ReferenceIdeal.Value.res_main_v36
  rfl

end Cert.Proof.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Range
public import proofs.«01_k».proof.Proof.Run
public import proofs.«01_k».proof.Proof.SameProgram
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The side condition the precondition states. -/
theorem rangeFacts : Cert.Pre_indices_in_range.Facts := ⟨by decide⟩

attribute [local instance] rangeFacts

/-- The precondition at the idealized program says that the index arrays are in range. -/
theorem inRange (m : (ℓ : Loc Cert.KernelIdeal.nD Cert.KernelIdeal.τ Cert.KernelIdeal.sig) → Buf (Elt Ideal) ℓ)
    (h : Cert.Pre_KernelIdeal m) : Tables.InRange m := fun b => Range.words_lt _ _ _ _ _ (h 0) b

/-- The precondition at the program as printed says that the index arrays are in range. -/
theorem inRange_bits (m : (ℓ : Loc Cert.Kernel.nD Cert.Kernel.τ Cert.Kernel.sig) → Buf (Elt Bits) ℓ)
    (h : Cert.Pre_Kernel m) : Tables.InRange (F := Bits) m := fun b => Range.words_lt _ _ _ _ _ (h 0) b

/-- The frame of the program as printed. -/
theorem frame_kernel : Cert.quiescent_Kernel := fun m g hpre =>
  SameProgram.run_of_ideal (θ_run_mono (Run.run (F := Bits) m (inRange_bits m hpre) g) fun _ h => ⟨fun c => (h.1 c).2, h.2⟩)

/-- The frame of the idealized program. -/
theorem frame_ideal : Cert.quiescent_KernelIdeal := fun m g hpre =>
  θ_run_mono (Run.run m (inRange m hpre) g) fun _ h => ⟨fun c => (h.1 c).2, h.2⟩

/-- The frame of the reference, which has no semaphore. -/
theorem frame_reference : Cert.quiescent_ReferenceIdeal := fun m g _ =>
  θ_run_mono (Cert.ReferenceIdeal.Value.run m g) fun r h => ⟨fun c => (h c).2, sem_eq_zero_of_no_sems (by decide) r.2⟩

/-- The idealized program's result is the reference's. -/
theorem values : Cert.algebraic_KernelIdeal_ReferenceIdeal := by
  intro m g m' g' hpre hagree
  refine ⟨fun c => Segments.W11 m (Tables.gg m) c (Proc.devRef .tc Cert.KernelIdeal.main_v15),
    θ_run_mono (Run.run m (inRange m hpre) g) fun _ h => h.1,
    θ_run_mono (Cert.ReferenceIdeal.Value.run m' g') fun _ h c => ⟨(h c).1.trans ((Equation.reference_eq m' c).trans ?_), (h c).2⟩⟩
  obtain ⟨h0, h1, h2, h3, h4⟩ := hagree c
  rw [h0, h1, h2, h3, h4]
  exact (Equation.result_eq m (inRange m hpre) c).symm

/-- All claims. -/
theorem claim : Cert.Claim :=
  ⟨Cert.Kernel.Gen.facts, Cert.KernelIdeal.Gen.facts, Cert.ReferenceIdeal.Gen.facts, rangeFacts,
    frame_kernel, frame_ideal, frame_reference, fun m g _ => frame_reference m g trivial, trivial, values⟩

end Cert.Proof

end
